-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bags_cover [hPre_bags_cover : Cert.Pre_bags_cover.Facts] (m : (ℓ : Loc Cert.KernelIdeal.nD Cert.KernelIdeal.τ Cert.KernelIdeal.sig) → Buf (Elt Ideal) ℓ) : Prop :=
  ∀ c : Dev Cert.KernelIdeal.nD,
    (Cert.Pre_bags_cover.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bags_cover [hPre_bags_cover : Cert.Pre_bags_cover.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bags_cover.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_bags_cover [hKernelIdeal : Cert.KernelIdeal.Facts] [hPre_bags_cover : Cert.Pre_bags_cover.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bags_cover m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_bags_cover [hReferenceIdeal : Cert.ReferenceIdeal.Facts] [hPre_bags_cover : Cert.Pre_bags_cover.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bags_cover m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_bags_cover [hKernelIdeal : Cert.KernelIdeal.Facts] [hReferenceIdeal : Cert.ReferenceIdeal.Facts] [hPre_bags_cover : Cert.Pre_bags_cover.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bags_cover m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_bags_cover : Cert.Pre_bags_cover.Facts),
    quiescent_Kernel (hKernel := hKernel)
    ∧ quiescent_KernelIdeal (hKernelIdeal := hKernelIdeal)
    ∧ quiescent_KernelIdeal_pre_bags_cover (hKernelIdeal := hKernelIdeal) (hPre_bags_cover := hPre_bags_cover)
    ∧ quiescent_ReferenceIdeal (hReferenceIdeal := hReferenceIdeal)
    ∧ quiescent_ReferenceIdeal_pre_bags_cover (hReferenceIdeal := hReferenceIdeal) (hPre_bags_cover := hPre_bags_cover)
    ∧ preserves_Kernel_KernelIdeal
    ∧ algebraic_KernelIdeal_ReferenceIdeal_pre_bags_cover (hKernelIdeal := hKernelIdeal) (hReferenceIdeal := hReferenceIdeal) (hPre_bags_cover := hPre_bags_cover)
-- ==== Pre_bags_cover.lean ====
abbrev S32768x1024 : Shape := ⟨2, ![32768, 1024]⟩
abbrev S16 : Shape := ⟨1, ![16]⟩
abbrev S1024x512 : Shape := ⟨2, ![1024, 512]⟩
abbrev S512 : Shape := ⟨1, ![512]⟩
abbrev S512x128 : Shape := ⟨2, ![512, 128]⟩
abbrev S128 : Shape := ⟨1, ![128]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S32768x1024 .f32) (main_arg1 : IVec S16 32) (main_arg2 : FVec F S1024x512 .f32) (main_arg3 : FVec F S512 .f32) (main_arg4 : FVec F S512x128 .f32) (main_arg5 : FVec F S128 .f32) : IVec S16 1 :=
  let main_c : IVec S_ 32 := constantI S_ 32 0#32
  let main_v0 : IVec S16 32 := broadcastInDim S16 ![] bcast_S_S16 main_c
  let main_v1 : IVec S16 1 := cmpi .sge main_arg1 main_v0
  let main_c_0 : IVec S_ 32 := constantI S_ 32 32768#32
  let main_v2 : IVec S16 32 := broadcastInDim S16 ![] bcast_S_S16 main_c_0
  let main_v3 : IVec S16 1 := cmpi .sle main_arg1 main_v2
  let main_v4 : IVec S16 1 := andi main_v1 main_v3
  let main_c_1 : IVec S_ 32 := constantI S_ 32 0#32
  let main_v5 : IVec S_ 32 := (fun x v => Host.reduce IntOp.addi x v reducesTo_S16_S_d0 h_S_) main_arg1 main_c_1
  let main_c_2 : IVec S_ 32 := constantI S_ 32 32768#32
  let main_v6 : IVec S_ 1 := cmpi .sge main_v5 main_c_2
  let main_v7 : IVec S16 1 := broadcastInDim S16 ![] bcast_S_S16 main_v6
  let main_v8 : IVec S16 1 := andi main_v4 main_v7
  main_v8
-- ==== Kernel.lean ====
abbrev S32768x1024 : Shape := ⟨2, ![32768, 1024]⟩
abbrev S16 : Shape := ⟨1, ![16]⟩
abbrev S1024x512 : Shape := ⟨2, ![1024, 512]⟩
abbrev S512 : Shape := ⟨1, ![512]⟩
abbrev S512x128 : Shape := ⟨2, ![512, 128]⟩
abbrev S128 : Shape := ⟨1, ![128]⟩
abbrev S_ : Shape := ⟨0, ![]⟩
abbrev S16x1 : Shape := ⟨2, ![16, 1]⟩
abbrev S16x128 : Shape := ⟨2, ![16, 128]⟩
abbrev S1x512 : Shape := ⟨2, ![1, 512]⟩
abbrev S8x512 : Shape := ⟨2, ![8, 512]⟩
abbrev S1x128 : Shape := ⟨2, ![1, 128]⟩
abbrev S8x128 : Shape := ⟨2, ![8, 128]⟩
abbrev S6x2048x1024 : Shape := ⟨3, ![6, 2048, 1024]⟩
abbrev S6 : Shape := ⟨1, ![6]⟩
abbrev S1 : Shape := ⟨1, ![1]⟩
abbrev S1x2048x1024 : Shape := ⟨3, ![1, 2048, 1024]⟩
abbrev S2048x1024 : Shape := ⟨2, ![2048, 1024]⟩
abbrev S16x512 : Shape := ⟨2, ![16, 512]⟩
abbrev S2048x512 : Shape := ⟨2, ![2048, 512]⟩
abbrev S1x2048 : Shape := ⟨2, ![1, 2048]⟩
abbrev S16x2048 : Shape := ⟨2, ![16, 2048]⟩

abbrev nBuf : Space → Nat
  | .hbm => 28
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S16, .i32⟩
  | .hbm, ⟨2, _⟩ => ⟨S1024x512, .f32⟩
  | .hbm, ⟨3, _⟩ => ⟨S512, .f32⟩
  | .hbm, ⟨4, _⟩ => ⟨S512x128, .f32⟩
  | .hbm, ⟨5, _⟩ => ⟨S128, .f32⟩
  | .hbm, ⟨6, _⟩ => ⟨S_, .i32⟩
  | .hbm, ⟨7, _⟩ => ⟨S_, .i32⟩
  | .hbm, ⟨8, _⟩ => ⟨S16, .i32⟩
  | .hbm, ⟨9, _⟩ => ⟨S16, .i32⟩
  | .hbm, ⟨10, _⟩ => ⟨S_, .i32⟩
  | .hbm, ⟨11, _⟩ => ⟨S16, .i32⟩
  | .hbm, ⟨12, _⟩ => ⟨S16, .i32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S16x1, .i32⟩
  | .hbm, ⟨18, _⟩ => ⟨S16x128, .i32⟩
  | .hbm, ⟨19, _⟩ => ⟨S16x1, .i32⟩
  | .hbm, ⟨20, _⟩ => ⟨S16x128, .i32⟩
  | .hbm, ⟨21, _⟩ => ⟨S16x1, .f32⟩
  | .hbm, ⟨22, _⟩ => ⟨S16x128, .f32⟩
  | .hbm, ⟨23, _⟩ => ⟨S1x512, .f32⟩
  | .hbm, ⟨24, _⟩ => ⟨S8x512, .f32⟩
  | .hbm, ⟨25, _⟩ => ⟨S1x128, .f32⟩
  | .hbm, ⟨26, _⟩ => ⟨S8x128, .f32⟩
  | .hbm, ⟨27, _⟩ => ⟨S16x128, .f32⟩
  | .local _ .vmem, ⟨0, _⟩ => ⟨S16x128, .i32⟩
  | .local _ .vmem, ⟨1, _⟩ => ⟨S16x128, .i32⟩
  | .local _ .vmem, ⟨2, _⟩ => ⟨S16x128, .f32⟩
  | .local _ .vmem, ⟨3, _⟩ => ⟨S1024x512, .f32⟩
  | .local _ .vmem, ⟨4, _⟩ => ⟨S8x512, .f32⟩
  | .local _ .vmem, ⟨5, _⟩ => ⟨S512x128, .f32⟩
  | .local _ .vmem, ⟨6, _⟩ => ⟨S8x128, .f32⟩
  | .local _ .vmem, ⟨7, _⟩ => ⟨S16x128, .f32⟩
  | .local _ .vmem, ⟨8, _⟩ => ⟨S6x2048x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_call0_c : Ref sig .tc := ⟨.hbm, 6, rfl⟩
abbrev main_call0_call0_v0 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

@[reducible] def k0_t1_loop : Scf.Loop 32 :=
  let c0_i32_21 : BitVec 32 := 0#32
  let c16_i32 : BitVec 32 := 16#32
  let v26 : BitVec 32 := Scalar.addi c0_i32_21 c16_i32
  let c1_i32_22 : BitVec 32 := 1#32
  ⟨c0_i32_21, v26, c1_i32_22⟩
def k0_cond1 (k0_t1 : Fin k0_t1_loop.trips) : BitVec 1 :=
  let c0_i32_21 : BitVec 32 := 0#32
  let c1_i32_22 : BitVec 32 := 1#32
  let arg11 : BitVec 32 := Scf.iv c0_i32_21 c1_i32_22 k0_t1
  let c6_i32 : BitVec 32 := 6#32
  let v40 : BitVec 32 := Scalar.addi arg11 c6_i32
  let c1_i32_32 : BitVec 32 := 1#32
  let v41 : BitVec 32 := Scalar.subi v40 c1_i32_32
  let c16_i32_33 : BitVec 32 := 16#32
  let v42 : BitVec 1 := Scalar.cmpi .slt v41 c16_i32_33
  let v43 : BitVec 32 := Scalar.extui v42
  let c0_i32_34 : BitVec 32 := 0#32
  let v44 : BitVec 1 := Scalar.cmpi .ne v43 c0_i32_34
  v44

def k0_off1 (k0_t1 : Fin k0_t1_loop.trips) : Fin 1 → Nat :=
  let c0_i32_21 : BitVec 32 := 0#32
  let c1_i32_22 : BitVec 32 := 1#32
  let arg11 : BitVec 32 := Scf.iv c0_i32_21 c1_i32_22 k0_t1
  let c6_i32 : BitVec 32 := 6#32
  let v40 : BitVec 32 := Scalar.addi arg11 c6_i32
  let c1_i32_32 : BitVec 32 := 1#32
  let v41 : BitVec 32 := Scalar.subi v40 c1_i32_32
  let c6_i32_61 : BitVec 32 := 6#32
  let c0_i32_62 : BitVec 32 := 0#32
  let v92 : BitVec 1 := Scalar.cmpi .eq c6_i32_61 c0_i32_62
  let c1_i32_63 : BitVec 32 := 1#32
  let v93 : BitVec 32 := Scalar.select v92 c1_i32_63 c6_i32_61
  let v94 : BitVec 32 := Scalar.remsi v41 v93
  let c0_i32_65 : BitVec 32 := 0#32
  let v96 : BitVec 1 := Scalar.cmpi .slt v94 c0_i32_65
  let c0_i32_66 : BitVec 32 := 0#32
  let v97 : BitVec 1 := Scalar.cmpi .slt v93 c0_i32_66
  let v98 : BitVec 1 := Scalar.xori v96 v97
  let c0_i32_64 : BitVec 32 := 0#32
  let v95 : BitVec 1 := Scalar.cmpi .ne v94 c0_i32_64
  let v99 : BitVec 1 := Scalar.andi v98 v95
  let v100 : BitVec 32 := Scalar.addi v94 v93
  let v101 : BitVec 32 := Scalar.select v99 v100 v94
  ![v101.toNat]
def k0_off2 (k0_t1 : Fin k0_t1_loop.trips) : Fin 3 → Nat :=
  let c0_i32_21 : BitVec 32 := 0#32
  let c1_i32_22 : BitVec 32 := 1#32
  let arg11 : BitVec 32 := Scf.iv c0_i32_21 c1_i32_22 k0_t1
  let c6_i32 : BitVec 32 := 6#32
  let v40 : BitVec 32 := Scalar.addi arg11 c6_i32
  let c1_i32_32 : BitVec 32 := 1#32
  let v41 : BitVec 32 := Scalar.subi v40 c1_i32_32
  let c6_i32_61 : BitVec 32 := 6#32
  let c0_i32_62 : BitVec 32 := 0#32
  let v92 : BitVec 1 := Scalar.cmpi .eq c6_i32_61 c0_i32_62
  let c1_i32_63 : BitVec 32 := 1#32
  let v93 : BitVec 32 := Scalar.select v92 c1_i32_63 c6_i32_61
  let v94 : BitVec 32 := Scalar.remsi v41 v93
  let c0_i32_65 : BitVec 32 := 0#32
  let v96 : BitVec 1 := Scalar.cmpi .slt v94 c0_i32_65
  let c0_i32_66 : BitVec 32 := 0#32
  let v97 : BitVec 1 := Scalar.cmpi .slt v93 c0_i32_66
  let v98 : BitVec 1 := Scalar.xori v96 v97
  let c0_i32_64 : BitVec 32 := 0#32
  let v95 : BitVec 1 := Scalar.cmpi .ne v94 c0_i32_64
  let v99 : BitVec 1 := Scalar.andi v98 v95
  let v100 : BitVec 32 := Scalar.addi v94 v93
  let v101 : BitVec 32 := Scalar.select v99 v100 v94
  let c0_i32_68 : BitVec 32 := 0#32
  let c0_i32_69 : BitVec 32 := 0#32
  ![v101.toNat, 0, 0]
def k0_off3 (k0_t1 : Fin k0_t1_loop.trips) : Fin 2 → Nat :=
  let c0_i32_21 : BitVec 32 := 0#32
  let c1_i32_22 : BitVec 32 := 1#32
  let arg11 : BitVec 32 := Scf.iv c0_i32_21 c1_i32_22 k0_t1
  let c6_i32 : BitVec 32 := 6#32
  let v40 : BitVec 32 := Scalar.addi arg11 c6_i32
  let c1_i32_32 : BitVec 32 := 1#32
  let v41 : BitVec 32 := Scalar.subi v40 c1_i32_32
  let c2048_i32_67 : BitVec 32 := 2048#32
  let v102 : BitVec 32 := Scalar.muli v41 c2048_i32_67
  let c0_i32_70 : BitVec 32 := 0#32
  ![v102.toNat, 0]
def k0_off4 (k0_t1 : Fin k0_t1_loop.trips) : Fin 1 → Nat :=
  let c0_i32_21 : BitVec 32 := 0#32
  let c1_i32_22 : BitVec 32 := 1#32
  let arg11 : BitVec 32 := Scf.iv c0_i32_21 c1_i32_22 k0_t1
  let c6_i32_35 : BitVec 32 := 6#32
  let c0_i32_36 : BitVec 32 := 0#32
  let v45 : BitVec 1 := Scalar.cmpi .eq c6_i32_35 c0_i32_36
  let c1_i32_37 : BitVec 32 := 1#32
  let v46 : BitVec 32 := Scalar.select v45 c1_i32_37 c6_i32_35
  let v47 : BitVec 32 := Scalar.remsi arg11 v46
  let c0_i32_39 : BitVec 32 := 0#32
  let v49 : BitVec 1 := Scalar.cmpi .slt v47 c0_i32_39
  let c0_i32_40 : BitVec 32 := 0#32
  let v50 : BitVec 1 := Scalar.cmpi .slt v46 c0_i32_40
  let v51 : BitVec 1 := Scalar.xori v49 v50
  let c0_i32_38 : BitVec 32 := 0#32
  let v48 : BitVec 1 := Scalar.cmpi .ne v47 c0_i32_38
  let v52 : BitVec 1 := Scalar.andi v51 v48
  let v53 : BitVec 32 := Scalar.addi v47 v46
  let v54 : BitVec 32 := Scalar.select v52 v53 v47
  ![v54.toNat]
def k0_off5 (k0_t1 : Fin k0_t1_loop.trips) : Fin 3 → Nat :=
  let c0_i32_21 : BitVec 32 := 0#32
  let c1_i32_22 : BitVec 32 := 1#32
  let arg11 : BitVec 32 := Scf.iv c0_i32_21 c1_i32_22 k0_t1
  let c6_i32_35 : BitVec 32 := 6#32
  let c0_i32_36 : BitVec 32 := 0#32
  let v45 : BitVec 1 := Scalar.cmpi .eq c6_i32_35 c0_i32_36
  let c1_i32_37 : BitVec 32 := 1#32
  let v46 : BitVec 32 := Scalar.select v45 c1_i32_37 c6_i32_35
  let v47 : BitVec 32 := Scalar.remsi arg11 v46
  let c0_i32_39 : BitVec 32 := 0#32
  let v49 : BitVec 1 := Scalar.cmpi .slt v47 c0_i32_39
  let c0_i32_40 : BitVec 32 := 0#32
  let v50 : BitVec 1 := Scalar.cmpi .slt v46 c0_i32_40
  let v51 : BitVec 1 := Scalar.xori v49 v50
  let c0_i32_38 : BitVec 32 := 0#32
  let v48 : BitVec 1 := Scalar.cmpi .ne v47 c0_i32_38
  let v52 : BitVec 1 := Scalar.andi v51 v48
  let v53 : BitVec 32 := Scalar.addi v47 v46
  let v54 : BitVec 32 := Scalar.select v52 v53 v47
  let c0_i32_42 : BitVec 32 := 0#32
  let c0_i32_43 : BitVec 32 := 0#32
  ![v54.toNat, 0, 0]
def k0_off6 (k0_t1 : Fin k0_t1_loop.trips) : Fin 2 → Nat :=
  let c0_i32_21 : BitVec 32 := 0#32
  let c1_i32_22 : BitVec 32 := 1#32
  let arg11 : BitVec 32 := Scf.iv c0_i32_21 c1_i32_22 k0_t1
  let c2048_i32_41 : BitVec 32 := 2048#32
  let v55 : BitVec 32 := Scalar.muli arg11 c2048_i32_41
  let c0_i32_44 : BitVec 32 := 0#32
  ![v55.toNat, 0]
def k0_off7 (k0_t1 : Fin k0_t1_loop.trips) : Fin 3 → Nat :=
  let c0_i32_21 : BitVec 32 := 0#32
  let c1_i32_22 : BitVec 32 := 1#32
  let arg11 : BitVec 32 := Scf.iv c0_i32_21 c1_i32_22 k0_t1
  let c6_i32_35 : BitVec 32 := 6#32
  let c0_i32_36 : BitVec 32 := 0#32
  let v45 : BitVec 1 := Scalar.cmpi .eq c6_i32_35 c0_i32_36
  let c1_i32_37 : BitVec 32 := 1#32
  let v46 : BitVec 32 := Scalar.select v45 c1_i32_37 c6_i32_35
  let v47 : BitVec 32 := Scalar.remsi arg11 v46
  let c0_i32_39 : BitVec 32 := 0#32
  let v49 : BitVec 1 := Scalar.cmpi .slt v47 c0_i32_39
  let c0_i32_40 : BitVec 32 := 0#32
  let v50 : BitVec 1 := Scalar.cmpi .slt v46 c0_i32_40
  let v51 : BitVec 1 := Scalar.xori v49 v50
  let c0_i32_38 : BitVec 32 := 0#32
  let v48 : BitVec 1 := Scalar.cmpi .ne v47 c0_i32_38
  let v52 : BitVec 1 := Scalar.andi v51 v48
  let v53 : BitVec 32 := Scalar.addi v47 v46
  let v54 : BitVec 32 := Scalar.select v52 v53 v47
  let v61 : Index := Scalar.indexCast v54
  let c0_45 : Index := 0#32
  let c0_46 : Index := 0#32
  ![v61.toNat, 0, 0]
abbrev stage0_0 : Fin 1 → Memref sig .tc .vmem S16x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S32768x1024 : Shape := ⟨2, ![32768, 1024]⟩
abbrev S16 : Shape := ⟨1, ![16]⟩
abbrev S1024x512 : Shape := ⟨2, ![1024, 512]⟩
abbrev S512 : Shape := ⟨1, ![512]⟩
abbrev S512x128 : Shape := ⟨2, ![512, 128]⟩
abbrev S128 : Shape := ⟨1, ![128]⟩
abbrev S32768x512 : Shape := ⟨2, ![32768, 512]⟩
abbrev S1x512 : Shape := ⟨2, ![1, 512]⟩
abbrev S_ : Shape := ⟨0, ![]⟩
abbrev S1 : Shape := ⟨1, ![1]⟩
abbrev S15 : Shape := ⟨1, ![15]⟩
abbrev S32768 : Shape := ⟨1, ![32768]⟩
abbrev S16x1 : Shape := ⟨2, ![16, 1]⟩
abbrev S32768x1 : Shape := ⟨2, ![32768, 1]⟩
abbrev S1x1 : Shape := ⟨2, ![1, 1]⟩
abbrev S16x512 : Shape := ⟨2, ![16, 512]⟩
abbrev S16x128 : Shape := ⟨2, ![16, 128]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S16, .i32⟩
  | .hbm, ⟨2, _⟩ => ⟨S1024x512, .f32⟩
  | .hbm, ⟨3, _⟩ => ⟨S512, .f32⟩
  | .hbm, ⟨4, _⟩ => ⟨S512x128, .f32⟩
  | .hbm, ⟨5, _⟩ => ⟨S128, .f32⟩
  | .hbm, ⟨6, _⟩ => ⟨S32768x512, .f32⟩
  | .hbm, ⟨7, _⟩ => ⟨S1x512, .f32⟩
  | .hbm, ⟨8, _⟩ => ⟨S32768x512, .f32⟩
  | .hbm, ⟨9, _⟩ => ⟨S32768x512, .f32⟩
  | .hbm, ⟨10, _⟩ => ⟨S_, .f32⟩
  | .hbm, ⟨11, _⟩ => ⟨S32768x512, .f32⟩
  | .hbm, ⟨12, _⟩ => ⟨S32768x512, .f32⟩
  | .hbm, ⟨13, _⟩ => ⟨S16, .i32⟩
  | .hbm, ⟨14, _⟩ => ⟨S1, .i32⟩
  | .hbm, ⟨15, _⟩ => ⟨S15, .i32⟩
  | .hbm, ⟨16, _⟩ => ⟨S16, .i32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S16, .i32⟩
  | .hbm, ⟨21, _⟩ => ⟨S_, .i32⟩
  | .hbm, ⟨22, _⟩ => ⟨S_, .i32⟩
  | .hbm, ⟨23, _⟩ => ⟨S16, .i32⟩
  | .hbm, ⟨24, _⟩ => ⟨S_, .i32⟩
  | .hbm, ⟨25, _⟩ => ⟨S32768, .i32⟩
  | .hbm, ⟨26, _⟩ => ⟨S_, .i32⟩
  | .hbm, ⟨27, _⟩ => ⟨S16, .i32⟩
  | .hbm, ⟨28, _⟩ => ⟨S16, .i1⟩
  | .hbm, ⟨29, _⟩ => ⟨S_, .i32⟩
  | .hbm, ⟨30, _⟩ => ⟨S16, .i32⟩
  | .hbm, ⟨31, _⟩ => ⟨S16, .i32⟩
  | .hbm, ⟨32, _⟩ => ⟨S16, .i32⟩
  | .hbm, ⟨33, _⟩ => ⟨S16x1, .i32⟩
  | .hbm, ⟨34, _⟩ => ⟨S_, .i32⟩
  | .hbm, ⟨35, _⟩ => ⟨S16, .i32⟩
  | .hbm, ⟨36, _⟩ => ⟨S32768, .i32⟩
  | .hbm, ⟨37, _⟩ => ⟨S_, .i32⟩
  | .hbm, ⟨38, _⟩ => ⟨S_, .i32⟩
  | .hbm, ⟨39, _⟩ => ⟨S32768, .i32⟩
  | .hbm, ⟨40, _⟩ => ⟨S_, .i32⟩
  | .hbm, ⟨41, _⟩ => ⟨S32768, .i32⟩
  | .hbm, ⟨42, _⟩ => ⟨S32768, .i32⟩
  | .hbm, ⟨43, _⟩ => ⟨S_, .i32⟩
  | .hbm, ⟨44, _⟩ => ⟨S32768, .i32⟩
  | .hbm, ⟨45, _⟩ => ⟨S32768, .i1⟩
  | .hbm, ⟨46, _⟩ => ⟨S_, .i32⟩
  | .hbm, ⟨47, _⟩ => ⟨S32768, .i32⟩
  | .hbm, ⟨48, _⟩ => ⟨S32768, .i32⟩
  | .hbm, ⟨49, _⟩ => ⟨S32768, .i32⟩
  | .hbm, ⟨50, _⟩ => ⟨S32768x1, .i32⟩
  | .hbm, ⟨51, _⟩ => ⟨S1, .i32⟩
  | .hbm, ⟨52, _⟩ => ⟨S_, .i32⟩
  | .hbm, ⟨53, _⟩ => ⟨S32768x1, .i32⟩
  | .hbm, ⟨54, _⟩ => ⟨S32768x1, .i1⟩
  | .hbm, ⟨55, _⟩ => ⟨S1x1, .i32⟩
  | .hbm, ⟨56, _⟩ => ⟨S32768x1, .i32⟩
  | .hbm, ⟨57, _⟩ => ⟨S32768x1, .i1⟩
  | .hbm, ⟨58, _⟩ => ⟨S32768x1, .i1⟩
  | .hbm, ⟨59, _⟩ => ⟨S_, .i1⟩
  | .hbm, ⟨60, _⟩ => ⟨S32768, .i1⟩
  | .hbm, ⟨61, _⟩ => ⟨S32768, .i32⟩
  | .hbm, ⟨62, _⟩ => ⟨S_, .i32⟩
  | .hbm, ⟨63, _⟩ => ⟨S32768, .i32⟩
  | .hbm, ⟨64, _⟩ => ⟨S32768, .i32⟩
  | .hbm, ⟨65, _⟩ => ⟨S_, .f32⟩
  | .hbm, ⟨66, _⟩ => ⟨S16x512, .f32⟩
  | .hbm, ⟨67, _⟩ => ⟨S32768x1, .i32⟩
  | .hbm, ⟨68, _⟩ => ⟨S16x512, .f32⟩
  | .hbm, ⟨69, _⟩ => ⟨S_, .i32⟩
  | .hbm, ⟨70, _⟩ => ⟨S16, .i32⟩
  | .hbm, ⟨71, _⟩ => ⟨S16, .i32⟩
  | .hbm, ⟨72, _⟩ => ⟨S16, .f32⟩
  | .hbm, ⟨73, _⟩ => ⟨S16x1, .f32⟩
  | .hbm, ⟨74, _⟩ => ⟨S16x512, .f32⟩
  | .hbm, ⟨75, _⟩ => ⟨S16x512, .f32⟩
  | .hbm, ⟨76, _⟩ => ⟨S16x128, .f32⟩
  | .hbm, ⟨77, _⟩ => ⟨S1x128, .f32⟩
  | .hbm, ⟨78, _⟩ => ⟨S16x128, .f32⟩
  | .hbm, ⟨79, _⟩ => ⟨S16x128, .f32⟩
  | .hbm, ⟨80, _⟩ => ⟨S16x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_call1_v0 : Ref sig .tc := ⟨.hbm, 14, rfl⟩
abbrev main_call1_v1 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_call2_call0_c : Ref sig .tc := ⟨.hbm, 21, rfl⟩
abbrev main_call2_call0_v0 : Ref sig .tc := ⟨.hbm, 22, rfl⟩
abbrev main_v9 : Ref sig .tc := ⟨.hbm, 23, rfl⟩
abbrev main_c_1 : Ref sig .tc := ⟨.hbm, 24, rfl⟩
abbrev main_v10 : Ref sig .tc := ⟨.hbm, 25, rfl⟩
abbrev main_c_2 : Ref sig .tc := ⟨.hbm, 26, rfl⟩
abbrev main_v11 : Ref sig .tc := ⟨.hbm, 27, rfl⟩
abbrev main_v12 : Ref sig .tc := ⟨.hbm, 28, rfl⟩
abbrev main_c_3 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_4 : Ref sig .tc := ⟨.hbm, 34, rfl⟩
abbrev main_v17 : Ref sig .tc := ⟨.hbm, 35, rfl⟩
abbrev main_v18 : Ref sig .tc := ⟨.hbm, 36, rfl⟩
abbrev main_call3_call0_c : Ref sig .tc := ⟨.hbm, 37, rfl⟩
abbrev main_call3_call0_v0 : Ref sig .tc := ⟨.hbm, 38, rfl⟩
abbrev main_v19 : Ref sig .tc := ⟨.hbm, 39, rfl⟩
abbrev main_c_5 : Ref sig .tc := ⟨.hbm, 40, rfl⟩
abbrev main_v20 : Ref sig .tc := ⟨.hbm, 41, rfl⟩
abbrev main_v21 : Ref sig .tc := ⟨.hbm, 42, rfl⟩
abbrev main_call4_c : Ref sig .tc := ⟨.hbm, 43, rfl⟩
abbrev main_call4_v0 : Ref sig .tc := ⟨.hbm, 44, rfl⟩
abbrev main_call4_v1 : Ref sig .tc := ⟨.hbm, 45, rfl⟩
abbrev main_call4_c_0 : Ref sig .tc := ⟨.hbm, 46, rfl⟩
abbrev main_call4_v2 : Ref sig .tc := ⟨.hbm, 47, rfl⟩
abbrev main_call4_v3 : Ref sig .tc := ⟨.hbm, 48, rfl⟩
abbrev main_call4_v4 : Ref sig .tc := ⟨.hbm, 49, rfl⟩
abbrev main_call4_v5 : Ref sig .tc := ⟨.hbm, 50, rfl⟩
abbrev main_call4_c_1 : Ref sig .tc := ⟨.hbm, 51, rfl⟩
abbrev main_call4_c_2 : Ref sig .tc := ⟨.hbm, 52, rfl⟩
abbrev main_call4_v6 : Ref sig .tc := ⟨.hbm, 53, rfl⟩
abbrev main_call4_v7 : Ref sig .tc := ⟨.hbm, 54, rfl⟩
abbrev main_call4_v8 : Ref sig .tc := ⟨.hbm, 55, rfl⟩
abbrev main_call4_v9 : Ref sig .tc := ⟨.hbm, 56, rfl⟩
abbrev main_call4_v10 : Ref sig .tc := ⟨.hbm, 57, rfl⟩
abbrev main_call4_v11 : Ref sig .tc := ⟨.hbm, 58, rfl⟩
abbrev main_call4_c_3 : Ref sig .tc := ⟨.hbm, 59, rfl⟩
abbrev main_call4_v12 : Ref sig .tc := ⟨.hbm, 60, rfl⟩
abbrev main_call4_v13 : Ref sig .tc := ⟨.hbm, 61, rfl⟩
abbrev main_call4_c_4 : Ref sig .tc := ⟨.hbm, 62, rfl⟩
abbrev main_call4_v14 : Ref sig .tc := ⟨.hbm, 63, rfl⟩
abbrev main_v22 : Ref sig .tc := ⟨.hbm, 64, rfl⟩
abbrev main_cst : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_c_6 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩

abbrev nD : Nat := 1
abbrev τ : Topo := Topo.v7x

variable {F : FTy → Type} [FloatOps F]
-- ==== Proof.KernelIdealSlots.lean ====
/-
  The names the kernel's transfers go by, and the pieces of memory its loop invariant is made of (`KernelIdeal`).

  The kernel streams the 32768 rows of `x` through a buffer of six slots, 2048 rows a slot, each slot with its own
  transfer semaphore. Trip `k` of its loop addresses slot `k % 6` and rows `2048 * k …`; this file gives those slots,
  semaphores and row blocks one name each, shows that the offsets the body computes are those names' offsets, and states
  what it is for a row block to be at home, for a slot to be free and for a slot to be in flight with a row block.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Ring
public import Idealize.ShloMosaic.Lib.Ring.AtN
public import Idealize.ShloMosaic.Lib.Ring.Trips
public import Idealize.ShloMosaic.Lib.Tactic

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The pipeline's resources beside the counters the kernel's own transfers use. -/
local notation "𝕄" => MT nD τ sig Unit (Elt F) ℕ (Pipeline.UD sig nD τ) ℕ

/-! ## The names -/

/-- The rows of `x`, which the kernel reads where they lie; its six-slot buffer. -/
abbrev xM : Memref sig .tc .hbm S32768x1024 .f32 := Memref.whole main_arg0
abbrev bufM : Memref sig .tc .vmem S6x2048x1024 .f32 := Memref.whole cc0_scratch0

abbrev rowOff (b : Fin 16) : Fin 2 → Nat := ![2048 * b.val, 0]
theorem rowOff_inb (b : Fin 16) : ∀ a, rowOff b a + S2048x1024.size a ≤ S32768x1024.size a := by
  have := b.isLt; intro a; fin_cases a
  · show 2048 * b.val + 2048 ≤ 32768; omega
  · show 0 + 1024 ≤ 1024; omega
abbrev slotOff (s : Fin 6) : Fin 3 → Nat := ![s.val, 0, 0]
theorem slotOff_inb (s : Fin 6) : ∀ a, slotOff s a + S1x2048x1024.size a ≤ S6x2048x1024.size a := by
  have := s.isLt; intro a; fin_cases a
  · show s.val + 1 ≤ 6; omega
  · show 0 + 2048 ≤ 2048; omega
  · show 0 + 1024 ≤ 1024; omega
abbrev semOff (s : Fin 6) : Fin 1 → Nat := ![s.val]
theorem semOff_inb (s : Fin 6) : ∀ a, semOff s a + S1.size a ≤ S6.size a := by
  have := s.isLt; intro a; fin_cases a; show s.val + 1 ≤ 6; omega

/-- Row block `b` of `x`: rows `2048 * b` to `2048 * b + 2047`. -/
def rows (b : Fin 16) : Memref sig .tc .hbm S2048x1024 .f32 :=
  xM.slice (Rect.unit (s := S32768x1024) (rowOff b) S2048x1024.size (rowOff_inb b)) (fun _ => rfl)
/-- Slot `s` of the buffer. -/
def slot (s : Fin 6) : Memref sig .tc .vmem S2048x1024 .f32 :=
  (bufM.slice (Rect.unit (s := S6x2048x1024) (slotOff s) S1x2048x1024.size (slotOff_inb s)) (fun _ => rfl)).squeeze S2048x1024 squeezes_S1x2048x1024_S2048x1024
/-- Slot `s`'s transfer semaphore. -/
def cell (s : Fin 6) : DmaSems sig S_ := (cc0_scratch1.slice (Rect.unit (s := S6) (semOff s) S1.size (semOff_inb s))).squeeze S_ squeezes_S1_S_

instance (s : Fin 6) : ClosedOff (slotOff s) := ⟨slotOff s, rfl⟩
instance (b : Fin 16) : ClosedOff (rowOff b) := ⟨rowOff b, rfl⟩

/-! ## The offsets trip `k` computes -/

theorem trips_eq : k0_t1_loop.trips = 16 := by decide
/-- Trip `k` issues the transfer five blocks ahead exactly when that block exists. -/
theorem cond_iff : ∀ k : Fin k0_t1_loop.trips, k0_cond1 k = 1#1 ↔ k.val + 5 < 16 := by decide +kernel
theorem off1_eq : ∀ k : Fin k0_t1_loop.trips, k.val + 5 < 16 → k0_off1 k = semOff (Ring.sl 6 (k.val + 5)) := by decide +kernel
theorem off2_eq : ∀ k : Fin k0_t1_loop.trips, k.val + 5 < 16 → k0_off2 k = slotOff (Ring.sl 6 (k.val + 5)) := by decide +kernel
theorem off3_eq : ∀ k : Fin k0_t1_loop.trips, k.val + 5 < 16 → k0_off3 k = rowOff (Ring.bk 16 (k.val + 5)) := by decide +kernel
theorem off4_eq : ∀ k : Fin k0_t1_loop.trips, k0_off4 k = semOff (Ring.sl 6 k.val) := by decide +kernel
theorem off5_eq : ∀ k : Fin k0_t1_loop.trips, k0_off5 k = slotOff (Ring.sl 6 k.val) := by decide +kernel
theorem off6_eq : ∀ k : Fin k0_t1_loop.trips, k0_off6 k = rowOff (Ring.bk 16 k.val) := by decide +kernel
theorem off7_eq : ∀ k : Fin k0_t1_loop.trips, k0_off7 k = slotOff (Ring.sl 6 k.val) := by decide +kernel

instance (k : Fin k0_t1_loop.trips) : ClosedOff (k0_off5 k) := ⟨slotOff (Ring.sl 6 k.val), off5_eq k⟩
instance (k : Fin k0_t1_loop.trips) : ClosedOff (k0_off7 k) := ⟨slotOff (Ring.sl 6 k.val), off7_eq k⟩

/-! ## The body's slices are the names -/

private theorem cell_of {off : Fin 1 → Nat} {s : Fin 6} (e : off = semOff s) (hh) :
    (cc0_scratch1.slice (Rect.unit (s := S6) off S1.size hh)).squeeze S_ squeezes_S1_S_ = cell s :=
  congrArg (fun A : DmaSems sig S1 => A.squeeze S_ squeezes_S1_S_) (SemArray.slice_unit_congr _ e _ _)
private theorem slot_of {off : Fin 3 → Nat} {s : Fin 6} (e : off = slotOff s) (hh hs) :
    (bufM.slice (Rect.unit (s := S6x2048x1024) off S1x2048x1024.size hh) hs).squeeze S2048x1024 squeezes_S1x2048x1024_S2048x1024 = slot s :=
  congrArg (fun M : Memref sig .tc .vmem S1x2048x1024 .f32 => M.squeeze S2048x1024 squeezes_S1x2048x1024_S2048x1024) (Memref.slice_unit_congr _ e _ _ _ _)
private theorem rows_of {off : Fin 2 → Nat} {b : Fin 16} (e : off = rowOff b) (hh hs) :
    xM.slice (Rect.unit (s := S32768x1024) off S2048x1024.size hh) hs = rows b :=
  Memref.slice_unit_congr _ e _ _ _ (fun _ => rfl)

/-- The five transfers issued before the loop. -/
@[sl_canon] theorem cellL0 (hh) : (cc0_scratch1.slice (Rect.unit (s := S6) ![0] S1.size hh)).squeeze S_ squeezes_S1_S_ = cell 0 := cell_of (by decide) _
@[sl_canon] theorem slotL0 (hh hs) : (bufM.slice (Rect.unit (s := S6x2048x1024) ![0, 0, 0] S1x2048x1024.size hh) hs).squeeze S2048x1024 squeezes_S1x2048x1024_S2048x1024 = slot 0 := slot_of (by decide) _ _
@[sl_canon] theorem rowsL0 (hh hs) : xM.slice (Rect.unit (s := S32768x1024) ![0, 0] S2048x1024.size hh) hs = rows 0 := rows_of (by decide) _ _
@[sl_canon] theorem cellL1 (hh) : (cc0_scratch1.slice (Rect.unit (s := S6) ![1] S1.size hh)).squeeze S_ squeezes_S1_S_ = cell 1 := cell_of (by decide) _
@[sl_canon] theorem slotL1 (hh hs) : (bufM.slice (Rect.unit (s := S6x2048x1024) ![1, 0, 0] S1x2048x1024.size hh) hs).squeeze S2048x1024 squeezes_S1x2048x1024_S2048x1024 = slot 1 := slot_of (by decide) _ _
@[sl_canon] theorem rowsL1 (hh hs) : xM.slice (Rect.unit (s := S32768x1024) ![2048, 0] S2048x1024.size hh) hs = rows 1 := rows_of (by decide) _ _
@[sl_canon] theorem cellL2 (hh) : (cc0_scratch1.slice (Rect.unit (s := S6) ![2] S1.size hh)).squeeze S_ squeezes_S1_S_ = cell 2 := cell_of (by decide) _
@[sl_canon] theorem slotL2 (hh hs) : (bufM.slice (Rect.unit (s := S6x2048x1024) ![2, 0, 0] S1x2048x1024.size hh) hs).squeeze S2048x1024 squeezes_S1x2048x1024_S2048x1024 = slot 2 := slot_of (by decide) _ _
@[sl_canon] theorem rowsL2 (hh hs) : xM.slice (Rect.unit (s := S32768x1024) ![4096, 0] S2048x1024.size hh) hs = rows 2 := rows_of (by decide) _ _
@[sl_canon] theorem cellL3 (hh) : (cc0_scratch1.slice (Rect.unit (s := S6) ![3] S1.size hh)).squeeze S_ squeezes_S1_S_ = cell 3 := cell_of (by decide) _
@[sl_canon] theorem slotL3 (hh hs) : (bufM.slice (Rect.unit (s := S6x2048x1024) ![3, 0, 0] S1x2048x1024.size hh) hs).squeeze S2048x1024 squeezes_S1x2048x1024_S2048x1024 = slot 3 := slot_of (by decide) _ _
@[sl_canon] theorem rowsL3 (hh hs) : xM.slice (Rect.unit (s := S32768x1024) ![6144, 0] S2048x1024.size hh) hs = rows 3 := rows_of (by decide) _ _
@[sl_canon] theorem cellL4 (hh) : (cc0_scratch1.slice (Rect.unit (s := S6) ![4] S1.size hh)).squeeze S_ squeezes_S1_S_ = cell 4 := cell_of (by decide) _
@[sl_canon] theorem slotL4 (hh hs) : (bufM.slice (Rect.unit (s := S6x2048x1024) ![4, 0, 0] S1x2048x1024.size hh) hs).squeeze S2048x1024 squeezes_S1x2048x1024_S2048x1024 = slot 4 := slot_of (by decide) _ _
@[sl_canon] theorem rowsL4 (hh hs) : xM.slice (Rect.unit (s := S32768x1024) ![8192, 0] S2048x1024.size hh) hs = rows 4 := rows_of (by decide) _ _

/-- The transfer trip `k` issues, and the one it waits for. -/
@[sl_canon] theorem cellI (k : Fin k0_t1_loop.trips) (h : k.val + 5 < 16) (hh) :
    (cc0_scratch1.slice (Rect.unit (s := S6) (k0_off1 k) S1.size hh)).squeeze S_ squeezes_S1_S_ = cell (Ring.sl 6 (k.val + 5)) := cell_of (off1_eq k h) _
@[sl_canon] theorem slotI (k : Fin k0_t1_loop.trips) (h : k.val + 5 < 16) (hh hs) :
    (bufM.slice (Rect.unit (s := S6x2048x1024) (k0_off2 k) S1x2048x1024.size hh) hs).squeeze S2048x1024 squeezes_S1x2048x1024_S2048x1024 = slot (Ring.sl 6 (k.val + 5)) := slot_of (off2_eq k h) _ _
@[sl_canon] theorem rowsI (k : Fin k0_t1_loop.trips) (h : k.val + 5 < 16) (hh hs) :
    xM.slice (Rect.unit (s := S32768x1024) (k0_off3 k) S2048x1024.size hh) hs = rows (Ring.bk 16 (k.val + 5)) := rows_of (off3_eq k h) _ _
@[sl_canon] theorem cellW (k : Fin k0_t1_loop.trips) (hh) :
    (cc0_scratch1.slice (Rect.unit (s := S6) (k0_off4 k) S1.size hh)).squeeze S_ squeezes_S1_S_ = cell (Ring.sl 6 k.val) := cell_of (off4_eq k) _
@[sl_canon] theorem slotW (k : Fin k0_t1_loop.trips) (hh hs) :
    (bufM.slice (Rect.unit (s := S6x2048x1024) (k0_off5 k) S1x2048x1024.size hh) hs).squeeze S2048x1024 squeezes_S1x2048x1024_S2048x1024 = slot (Ring.sl 6 k.val) := slot_of (off5_eq k) _ _
@[sl_canon] theorem rowsW (k : Fin k0_t1_loop.trips) (hh hs) :
    xM.slice (Rect.unit (s := S32768x1024) (k0_off6 k) S2048x1024.size hh) hs = rows (Ring.bk 16 k.val) := rows_of (off6_eq k) _ _

/-! ## The pieces -/

section Pieces
variable (c : Dev nD) (X : Buf (Elt F) (xM.view.loc (c : Thread nD τ)))

/-- Slot `s`'s semaphore, at zero. -/
abbrev cellP (s : Fin 6) : sProp 𝕄 := semVal ((c : Thread nD τ), SemLoc.dma (cell s).sem) 0
/-- Slot `s` holding `f`. -/
abbrev slotP (s : Fin 6) (f : Buf (Elt F) ((slot s).view.loc (c : Thread nD τ))) : sProp 𝕄 :=
  (slot s).view.loc (c : Thread nD τ) ↦[(slot s).view.set]{fullShare} f
/-- Row block `b` at home: not lent to a transfer. -/
abbrev homeP (b : Fin 16) : sProp 𝕄 := (rows b).view.loc (c : Thread nD τ) ↦[(rows b).view.set]{fullShare} X
/-- Row block `b`'s words. -/
abbrev words (b : Fin 16) : S2048x1024.Idx → Elt F .f32 := ReadAs.same.apply ((rows b).view.read (Elt F) X)
/-- What row block `b`'s transfer leaves in slot `s` over `f`. -/
abbrev landed (s : Fin 6) (b : Fin 16) (f : Buf (Elt F) ((slot s).view.loc (c : Thread nD τ))) : Buf (Elt F) ((slot s).view.loc (c : Thread nD τ)) :=
  (slot s).view.writes (Elt F) f [⟨Rect.whole S2048x1024, words c X b⟩]
/-- Slot `s` in flight with row block `b`, issued over `f`. -/
abbrev flightP (s : Fin 6) (b : Fin 16) (f : Buf (Elt F) ((slot s).view.loc (c : Thread nD τ))) : sProp 𝕄 :=
  Transfers.Flight countersEmb (c : Thread nD τ) (SemLoc.dma (cell s).sem) () 262144 iprop(slotP c s (landed c X s b f) ∗ homeP c X b)

/-- Slot `s` free: its semaphore at zero, its words anything. -/
def freeP (s : Fin 6) : sProp 𝕄 := iprop(cellP c s ∗ ∃ f, slotP c s f)
/-- Slot `s` in flight with row block `b`. -/
def inflightP (s : Fin 6) (b : Fin 16) : sProp 𝕄 := iprop(∃ f, flightP c X s b f)
/-- The slot that carries block `p`: in flight with it while it exists, else free. -/
def roleP (p : ℕ) : sProp 𝕄 := Ring.roleAt (freeP c (Ring.sl 6 p)) (inflightP c X (Ring.sl 6 p)) p

theorem roleP_of_lt (p : ℕ) (h : p < 16) : roleP c X p = iprop(∃ f, flightP c X (Ring.sl 6 p) (Ring.bk 16 p) f) := Ring.roleAt_of_lt _ _ p h
theorem roleP_of_le (p : ℕ) (h : 16 ≤ p) : roleP c X p = freeP c (Ring.sl 6 p) := Ring.roleAt_of_le _ _ p h

/-- The rows at home before trip `k`, the block about to be lent apart; -/
theorem homes_here (k : ℕ) (hk : k + 5 < 16) :
    bigSep (Ring.homeSet 5 k) (homeP c X) = iprop(homeP c X (Ring.bk 16 (k + 5)) ∗ bigSep ((Ring.homeSet 5 k).erase (Ring.bk 16 (k + 5))) (homeP c X)) := by
  conv_lhs => rw [Ring.homeSet_out 5 k hk, bigSep_insert (Ring.bkL_not_mem_erase 5 k)]
  rfl
/-- after it, the block that came back apart; -/
theorem homes_next (k : ℕ) (hk : k + 5 < 16) :
    bigSep (Ring.homeSet 5 (k + 1)) (homeP c X) = iprop(homeP c X (Ring.bk 16 k) ∗ bigSep ((Ring.homeSet 5 k).erase (Ring.bk 16 (k + 5))) (homeP c X)) := by
  conv_lhs => rw [Ring.homeSet_succ 5 k hk, bigSep_insert (Ring.bk_not_mem_erase 5 k (by omega) (by decide))]
  rfl
/-- and near the end, where nothing is lent. -/
theorem homes_tail (k : ℕ) (hk : 16 ≤ k + 5) (h : k < 16) :
    bigSep (Ring.homeSet 5 (k + 1)) (homeP c X) = iprop(homeP c X (Ring.bk 16 k) ∗ bigSep (Ring.homeSet 5 k) (homeP c X)) := by
  conv_lhs => rw [Ring.homeSet_succ_tail 5 k hk h, bigSep_insert (Ring.bk_not_mem_homeSet 5 k h (by decide))]
  rfl

end Pieces

end Cert.Proof.KernelIdeal

end
-- ==== Proof.KernelIdealTrip.lean ====
/-
  One trip of the kernel's loop, and the loop's invariant (`KernelIdeal`).
-/
module

public import proofs.«01_k».proof.Proof.KernelIdealSlots

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The pipeline's resources beside the counters the kernel's own transfers use. -/
local notation "𝕄" => MT nD τ sig Unit (Elt F) ℕ (Pipeline.UD sig nD τ) ℕ

/-- A staging buffer held whole at `f`. -/
abbrev stP (c : Dev nD) {S : Shape} {e : EltTy} (A : Memref sig .tc .vmem S e) (f : Buf (Elt F) (A.view.loc (c : Thread nD τ))) : sProp 𝕄 :=
  A.view.loc (c : Thread nD τ) ↦[A.view.set]{fullShare} f

section Trip

variable (c : Dev nD) (X : Buf (Elt F) (xM.view.loc (c : Thread nD τ)))
  (arg0 : Memref sig .tc .vmem S16x128 .i32) (harg0 : arg0.IsWhole) (arg1 : Memref sig .tc .vmem S16x128 .i32) (harg1 : arg1.IsWhole)
  (arg2 : Memref sig .tc .vmem S16x128 .f32) (harg2 : arg2.IsWhole) (arg4 : Memref sig .tc .vmem S1024x512 .f32) (harg4 : arg4.IsWhole)
  (arg5 : Memref sig .tc .vmem S8x512 .f32) (harg5 : arg5.IsWhole) (arg6 : Memref sig .tc .vmem S512x128 .f32) (harg6 : arg6.IsWhole)
  (arg7 : Memref sig .tc .vmem S8x128 .f32) (harg7 : arg7.IsWhole) (arg8 : Memref sig .tc .vmem S16x128 .f32) (harg8 : arg8.IsWhole)
  (f0 : Buf (Elt F) (arg0.view.loc (c : Thread nD τ))) (f1 : Buf (Elt F) (arg1.view.loc (c : Thread nD τ)))
  (f4 : Buf (Elt F) (arg4.view.loc (c : Thread nD τ))) (f5 : Buf (Elt F) (arg5.view.loc (c : Thread nD τ)))

/-- What the loop reads and does not change: the bags' starts and ends, the weights and the bias; and the core's waits. -/
def readP : sProp 𝕄 :=
  iprop(stP c arg0 f0 ∗ stP c arg1 f1 ∗ stP c arg4 f4 ∗ stP c arg5 f5 ∗ (∃ W, owes (c : Thread nD τ) 0 W))

/-- Before trip `k`: the rows at home except the blocks `k … k + 4`, those blocks' slots, and slot `k + 5` free. -/
def ringAt (k : ℕ) : sProp 𝕄 :=
  iprop(bigSep (Ring.homeSet 5 k) (homeP c X) ∗ roleP c X k ∗ roleP c X (k + 1) ∗ roleP c X (k + 2) ∗ roleP c X (k + 3) ∗ roleP c X (k + 4)
    ∗ freeP c (Ring.sl 6 (k + 5)))

abbrev tripG (k : Fin k0_t1_loop.trips) (acc : FVec F S16x512 .f32) : Prog (TpuEff nD τ sig (Elt F) Λ₀ .tc) (FVec F S16x512 .f32) :=
  k0_t1_body (F := F) arg0 harg0 arg1 harg1 arg2 harg2 xM (Memref.isWhole_whole _) arg4 harg4 arg5 harg5 arg6 harg6 arg7 harg7 arg8 harg8
    bufM (Memref.isWhole_whole _) cc0_scratch1 k acc

/-! ## What a trip computes -/

/-- Row block `k` as trip `k` reads it back from its slot. -/
def slotRead (k : Fin k0_t1_loop.trips) : Vec F S1x2048x1024 .f32 :=
  bufM.view.readAt (Elt F) (Rect.unit (s := S6x2048x1024) (k0_off7 k) S1x2048x1024.size (k0_off7_inb k)).toLoadRect
    (landed c X (Ring.sl 6 k.val) (Ring.bk 16 k.val) (slot (Ring.sl 6 k.val)).view.junk)
/-- The first column of a staged table of bag starts or ends, the staged weights, and a row of the staged bias. -/
abbrev colRead (A : Memref sig .tc .vmem S16x128 .i32) (f : Buf (Elt F) (A.view.loc (c : Thread nD τ))) : Vec F S16x1 .i32 :=
  A.view.readAt (Elt F) (Rect.unit (s := S16x128) ![0, 0] S16x1.size inb_S16x128_S16x1_0_0).toLoadRect f
abbrev w1Read : Vec F S1024x512 .f32 := arg4.view.readAt (Elt F) (Rect.unit (s := S1024x512) ![0, 0] S1024x512.size inb_S1024x512_S1024x512_0_0).toLoadRect f4
abbrev b1Read : Vec F S1x512 .f32 := arg5.view.readAt (Elt F) (Rect.unit (s := S8x512) ![0, 0] S1x512.size inb_S8x512_S1x512_0_0).toLoadRect f5

/-- The accumulator after trip `k`, from `acc` before it. -/
def stepVal (k : Fin k0_t1_loop.trips) (acc : FVec F S16x512 .f32) : FVec F S16x512 .f32 :=
  k0_pay2 acc (k0_pay4 (slotRead c X k) (w1Read c arg4 f4) (b1Read c arg5 f5)) (Scalar.muli (Scf.iv 0#32 1#32 k) 2048#32)
    (iota .tc S1x2048 32 [1] iota_S1x2048_d1_w32) (colRead c arg0 f0) (colRead c arg1 f1)
/-- The accumulator before trip `k`. -/
def accAt : ℕ → FVec F S16x512 .f32
  | 0 => k0_pay1 (F := F)
  | k + 1 => if h : k < k0_t1_loop.trips then stepVal c X arg0 arg1 arg4 arg5 f0 f1 f4 f5 ⟨k, h⟩ (accAt k) else accAt k

/-! ## A trip -/

/-- A trip while a block is still to be issued: block `k + 5` goes out into slot `k + 5`, block `k` comes back. -/
theorem tripIssue (k : Fin k0_t1_loop.trips) (h5 : k.val + 5 < 16) (acc : FVec F S16x512 .f32) :
    iprop(readP c arg0 arg1 arg4 arg5 f0 f1 f4 f5 ∗ ringAt c X k)
      ⊢ wp frame (wpE (defs₀ (F := F)) Variants.none (c : Thread nD τ) none) Set.univ
        (tripG arg0 harg0 arg1 harg1 arg2 harg2 arg4 harg4 arg5 harg5 arg6 harg6 arg7 harg7 arg8 harg8 k acc)
        (fun a => iprop(⌜a = stepVal c X arg0 arg1 arg4 arg5 f0 f1 f4 f5 k acc⌝ ∗ readP c arg0 arg1 arg4 arg5 f0 f1 f4 f5 ∗ ringAt c X (k.val + 1))) := by
  have hc : k0_cond1 k = 1#1 := (cond_iff k).mpr h5
  unfold readP ringAt
  rw [homes_here c X k.val h5, homes_next c X k.val h5, roleP_of_lt c X k.val (by omega), show k.val + 1 + 4 = k.val + 5 from rfl,
    roleP_of_lt c X (k.val + 5) h5, show k.val + 1 + 5 = k.val + 6 from rfl, Ring.sl_add 6 k.val]
  unfold freeP
  iintro ⟨⟨H0, H1, H4, H5, ⟨%W, HW⟩⟩, ⟨Hh, Hrest⟩, ⟨%g0, HF⟩, HR1, HR2, HR3, HR4, Hc, ⟨%g5, Hs⟩⟩
  dsimp only [tripG]
  sl_unfold [k0_t1_body]
  sl_exec
  sl_step
  isplitr; · ipureintro; rfl
  isplitl [H0 H1 H4 H5 HW]
  · isplitl [H0]; · iexact H0
    isplitl [H1]; · iexact H1
    isplitl [H4]; · iexact H4
    isplitl [H5]; · iexact H5
    iexists _; iexact HW
  isplitl [HF_src Hrest]
  · isplitl [HF_src]; · iexact HF_src
    iexact Hrest
  isplitl [HR1]; · iexact HR1
  isplitl [HR2]; · iexact HR2
  isplitl [HR3]; · iexact HR3
  isplitl [HR4]; · iexact HR4
  isplitl [Hc]; · iexists g5; iexact Hc
  isplitl [HF]; · iexact HF
  iexists _; iexact HF_dst

/-- A trip near the end, where no block is left to issue: block `k` comes back. -/
theorem tripTail (k : Fin k0_t1_loop.trips) (h5 : 16 ≤ k.val + 5) (acc : FVec F S16x512 .f32) :
    iprop(readP c arg0 arg1 arg4 arg5 f0 f1 f4 f5 ∗ ringAt c X k)
      ⊢ wp frame (wpE (defs₀ (F := F)) Variants.none (c : Thread nD τ) none) Set.univ
        (tripG arg0 harg0 arg1 harg1 arg2 harg2 arg4 harg4 arg5 harg5 arg6 harg6 arg7 harg7 arg8 harg8 k acc)
        (fun a => iprop(⌜a = stepVal c X arg0 arg1 arg4 arg5 f0 f1 f4 f5 k acc⌝ ∗ readP c arg0 arg1 arg4 arg5 f0 f1 f4 f5 ∗ ringAt c X (k.val + 1))) := by
  have hk : k.val < 16 := Nat.lt_of_lt_of_eq k.isLt trips_eq
  have hc : ¬ k0_cond1 k = 1#1 := fun h => absurd ((cond_iff k).mp h) (by omega)
  unfold readP ringAt
  rw [homes_tail c X k.val h5 hk, roleP_of_lt c X k.val hk, show k.val + 1 + 4 = k.val + 5 from rfl,
    roleP_of_le c X (k.val + 5) h5, show k.val + 1 + 5 = k.val + 6 from rfl, Ring.sl_add 6 k.val]
  iintro ⟨⟨H0, H1, H4, H5, ⟨%W, HW⟩⟩, Hrest, ⟨%g0, HF⟩, HR1, HR2, HR3, HR4, Hfree⟩
  dsimp only [tripG]
  sl_unfold [k0_t1_body]
  sl_exec
  sl_step
  isplitr; · ipureintro; rfl
  isplitl [H0 H1 H4 H5 HW]
  · isplitl [H0]; · iexact H0
    isplitl [H1]; · iexact H1
    isplitl [H4]; · iexact H4
    isplitl [H5]; · iexact H5
    iexists _; iexact HW
  isplitl [HF_src Hrest]
  · isplitl [HF_src]; · iexact HF_src
    iexact Hrest
  isplitl [HR1]; · iexact HR1
  isplitl [HR2]; · iexact HR2
  isplitl [HR3]; · iexact HR3
  isplitl [HR4]; · iexact HR4
  isplitl [Hfree]; · iexact Hfree
  unfold freeP
  isplitl [HF]; · iexact HF
  iexists _; iexact HF_dst

/-- The loop's invariant: the carried value is the accumulator, and the ring stands at the trip. -/
def invAt (k : ℕ) (acc : FVec F S16x512 .f32) : sProp 𝕄 :=
  iprop(⌜acc = accAt c X arg0 arg1 arg4 arg5 f0 f1 f4 f5 k⌝ ∗ readP c arg0 arg1 arg4 arg5 f0 f1 f4 f5 ∗ ringAt c X k)

set_option warn.classDefReducibility false in
@[sl_loop] def loopInv :
    LoopInvTy_k0_t1 (F := F) Unit ℕ (Pipeline.UD sig nD τ) ℕ Variants.none c none Set.univ arg0 harg0 arg1 harg1 arg2 harg2 xM (Memref.isWhole_whole _)
      arg4 harg4 arg5 harg5 arg6 harg6 arg7 harg7 arg8 harg8 bufM (Memref.isWhole_whole _) cc0_scratch1 (k0_pay1 (F := F)) where
  inv k acc := invAt c X arg0 arg1 arg4 arg5 f0 f1 f4 f5 k acc
  step k acc := by
    have e : accAt c X arg0 arg1 arg4 arg5 f0 f1 f4 f5 (k.val + 1)
        = stepVal c X arg0 arg1 arg4 arg5 f0 f1 f4 f5 k (accAt c X arg0 arg1 arg4 arg5 f0 f1 f4 f5 k.val) := by
      rw [accAt, dif_pos k.isLt]
    unfold invAt
    rw [e]
    iintro ⟨%ha, H⟩
    subst ha
    by_cases h5 : k.val + 5 < 16
    · iapply (tripIssue c X arg0 harg0 arg1 harg1 arg2 harg2 arg4 harg4 arg5 harg5 arg6 harg6 arg7 harg7 arg8 harg8 f0 f1 f4 f5 k h5 _); iexact H
    · iapply (tripTail c X arg0 harg0 arg1 harg1 arg2 harg2 arg4 harg4 arg5 harg5 arg6 harg6 arg7 harg7 arg8 harg8 f0 f1 f4 f5 k (by omega) _); iexact H

end Trip

end Cert.Proof.KernelIdeal

end
-- ==== Proof.KernelIdealBody.lean ====
/-
  The kernel's body (`KernelIdeal`): the five transfers issued before the loop, the loop, and the result stored after it.
-/
module

public import proofs.«01_k».proof.Proof.KernelIdealTrip
public import Idealize.ShloMosaic.Lib.VecWindow

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The pipeline's resources beside the counters the kernel's own transfers use. -/
local notation "𝕄" => MT nD τ sig Unit (Elt F) ℕ (Pipeline.UD sig nD τ) ℕ

theorem of_eq {P Q : sProp 𝕄} (e : P = Q) : P ⊢ Q := e ▸ .rfl

/-! ## The ring at the two ends of the loop -/

section Ends
variable (c : Dev nD) (X : Buf (Elt F) (xM.view.loc (c : Thread nD τ)))

theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [(0 : Fin 6), 1, 2, 3, 4, 5] (by decide) (by decide) Φ

/-- At the body's entry the first five row blocks are told apart from the rest. -/
theorem homes_zero : bigSep Finset.univ (homeP c X)
    = iprop(homeP c X 0 ∗ homeP c X 1 ∗ homeP c X 2 ∗ homeP c X 3 ∗ homeP c X 4 ∗ bigSep (Ring.homeSet 5 0) (homeP c X)) := by
  have e : (Finset.univ : Finset (Fin 16)) = insert 0 (insert 1 (insert 2 (insert 3 (insert 4 (Ring.homeSet (NB := 16) 5 0))))) := by
    ext b; simp only [Finset.mem_univ, Finset.mem_insert, Ring.mem_homeSet, true_iff, Fin.ext_iff]; have := b.isLt
    show b.val = 0 ∨ b.val = 1 ∨ b.val = 2 ∨ b.val = 3 ∨ b.val = 4 ∨ _
    omega
  rw [e, bigSep_insert (by simp [Ring.mem_homeSet, Fin.ext_iff]), bigSep_insert (by simp [Ring.mem_homeSet, Fin.ext_iff]),
    bigSep_insert (by simp [Ring.mem_homeSet, Fin.ext_iff]), bigSep_insert (by simp [Ring.mem_homeSet, Fin.ext_iff]),
    bigSep_insert (by simp [Ring.mem_homeSet, Fin.ext_iff])]; rfl

theorem role_lit (p : ℕ) (h : p < 16) (s : Fin 6) (b : Fin 16) (hs : Ring.sl 6 p = s) (hb : Ring.bk 16 p = b) :
    roleP c X p = iprop(∃ f, flightP c X s b f) := by subst hs hb; exact roleP_of_lt c X p h

/-- After the last trip every row block is home and every slot free. -/
theorem ring_end : ringAt c X 16 ⊢ iprop(bigSep Finset.univ (homeP c X) ∗ bigSep Finset.univ (freeP c)) := by
  unfold ringAt
  rw [roleP_of_le c X 16 (by omega), roleP_of_le c X (16 + 1) (by omega), roleP_of_le c X (16 + 2) (by omega),
    roleP_of_le c X (16 + 3) (by omega), roleP_of_le c X (16 + 4) (by omega), Ring.homeSet_last 5 16 (le_refl _),
    ← Ring.bigSep_roles_eq (freeP c) 16, bigSep_fin6]
  iintro ⟨Hh, H0, H1, H2, H3, H4, H5⟩
  isplitl [Hh]; · iexact Hh
  isplitl [H0]; · iexact H0
  isplitl [H1]; · iexact H1
  isplitl [H2]; · iexact H2
  isplitl [H3]; · iexact H3
  isplitl [H4]; · iexact H4
  iexact H5

end Ends

section Body

variable (c : Dev nD) (X : Buf (Elt F) (xM.view.loc (c : Thread nD τ)))
  (arg0 : Memref sig .tc .vmem S16x128 .i32) (harg0 : arg0.IsWhole) (arg1 : Memref sig .tc .vmem S16x128 .i32) (harg1 : arg1.IsWhole)
  (arg2 : Memref sig .tc .vmem S16x128 .f32) (harg2 : arg2.IsWhole) (arg4 : Memref sig .tc .vmem S1024x512 .f32) (harg4 : arg4.IsWhole)
  (arg5 : Memref sig .tc .vmem S8x512 .f32) (harg5 : arg5.IsWhole) (arg6 : Memref sig .tc .vmem S512x128 .f32) (harg6 : arg6.IsWhole)
  (arg7 : Memref sig .tc .vmem S8x128 .f32) (harg7 : arg7.IsWhole) (arg8 : Memref sig .tc .vmem S16x128 .f32) (harg8 : arg8.IsWhole)
  (f0 : Buf (Elt F) (arg0.view.loc (c : Thread nD τ))) (f1 : Buf (Elt F) (arg1.view.loc (c : Thread nD τ)))
  (f2 : Buf (Elt F) (arg2.view.loc (c : Thread nD τ)))
  (f4 : Buf (Elt F) (arg4.view.loc (c : Thread nD τ))) (f5 : Buf (Elt F) (arg5.view.loc (c : Thread nD τ)))
  (f6 : Buf (Elt F) (arg6.view.loc (c : Thread nD τ))) (f7 : Buf (Elt F) (arg7.view.loc (c : Thread nD τ)))

/-- The five transfers issued before the loop bring the ring to trip 0. -/
theorem issueRun :
    iprop(readP c arg0 arg1 arg4 arg5 f0 f1 f4 f5 ∗ bigSep Finset.univ (homeP c X) ∗ bigSep Finset.univ (freeP (F := F) c))
      ⊢ wp frame (wpE (defs₀ (F := F)) Variants.none (c : Thread nD τ) none) Set.univ
        (k0_part2 (F := F) arg0 harg0 arg1 harg1 arg2 harg2 xM (Memref.isWhole_whole _) arg4 harg4 arg5 harg5 arg6 harg6 arg7 harg7 arg8 harg8
          bufM (Memref.isWhole_whole _) cc0_scratch1)
        (fun _ => invAt c X arg0 arg1 arg4 arg5 f0 f1 f4 f5 0 (k0_pay1 (F := F))) := by
  unfold invAt readP ringAt
  rw [homes_zero, bigSep_fin6, role_lit c X 0 (by omega) 0 0 (by decide) (by decide), role_lit c X (0 + 1) (by omega) 1 1 (by decide) (by decide),
    role_lit c X (0 + 2) (by omega) 2 2 (by decide) (by decide), role_lit c X (0 + 3) (by omega) 3 3 (by decide) (by decide),
    role_lit c X (0 + 4) (by omega) 4 4 (by decide) (by decide), show Ring.sl 6 (0 + 5) = 5 from by decide]
  unfold freeP
  iintro ⟨⟨H0, H1, H4, H5, ⟨%W, HW⟩⟩, ⟨Hb0, Hb1, Hb2, Hb3, Hb4, Hrest⟩, ⟨Hc0, ⟨%g0, Hs0⟩⟩, ⟨Hc1, ⟨%g1, Hs1⟩⟩, ⟨Hc2, ⟨%g2, Hs2⟩⟩,
    ⟨Hc3, ⟨%g3, Hs3⟩⟩, ⟨Hc4, ⟨%g4, Hs4⟩⟩, Hfree⟩
  sl_unfold [k0_part2]
  sl_exec
  sl_step
  isplitr; · ipureintro; rfl
  isplitl [H0 H1 H4 H5 HW]
  · isplitl [H0]; · iexact H0
    isplitl [H1]; · iexact H1
    isplitl [H4]; · iexact H4
    isplitl [H5]; · iexact H5
    iexists _; iexact HW
  isplitl [Hrest]; · iexact Hrest
  isplitl [Hc0]; · iexists g0; iexact Hc0
  isplitl [Hc1]; · iexists g1; iexact Hc1
  isplitl [Hc2]; · iexists g2; iexact Hc2
  isplitl [Hc3]; · iexists g3; iexact Hc3
  isplitl [Hc4]; · iexists g4; iexact Hc4
  iexact Hfree

/-- What the body stores: the tail of the network on the accumulator after the last trip. -/
def resVal : FVec F S16x128 .f32 :=
  k0_pay3 (accAt c X arg0 arg1 arg4 arg5 f0 f1 f4 f5 16)
    (arg2.view.readAt (Elt F) (Rect.unit (s := S16x128) ![0, 0] S16x1.size inb_S16x128_S16x1_0_0).toLoadRect f2)
    (arg6.view.readAt (Elt F) (Rect.unit (s := S512x128) ![0, 0] S512x128.size inb_S512x128_S512x128_0_0).toLoadRect f6)
    (arg7.view.readAt (Elt F) (Rect.unit (s := S8x128) ![0, 0] S1x128.size inb_S8x128_S1x128_0_0).toLoadRect f7)

theorem inv_end (acc : FVec F S16x512 .f32) : invAt c X arg0 arg1 arg4 arg5 f0 f1 f4 f5 k0_t1_loop.trips acc
    ⊢ iprop(⌜acc = accAt c X arg0 arg1 arg4 arg5 f0 f1 f4 f5 16⌝ ∗ readP c arg0 arg1 arg4 arg5 f0 f1 f4 f5
      ∗ bigSep Finset.univ (homeP c X) ∗ bigSep Finset.univ (freeP (F := F) c)) := by
  rw [trips_eq]
  unfold invAt
  iintro ⟨%ha, HR, Hring⟩
  isplitr; · ipureintro; exact ha
  isplitl [HR]; · iexact HR
  iapply (ring_end c X); iexact Hring

attribute [local irreducible] invAt in
/-- The body: from the row blocks home and the slots free to the same, the result's buffer holding `resVal`. -/
theorem bodyRun (f8 : Buf (Elt F) (arg8.view.loc (c : Thread nD τ))) (Q : PUnit → sProp 𝕄) :
    iprop((readP c arg0 arg1 arg4 arg5 f0 f1 f4 f5 ∗ bigSep Finset.univ (homeP c X) ∗ bigSep Finset.univ (freeP (F := F) c))
        ∗ stP c arg2 f2 ∗ stP c arg6 f6 ∗ stP c arg7 f7 ∗ stP c arg8 f8
        ∗ ((readP c arg0 arg1 arg4 arg5 f0 f1 f4 f5 ∗ bigSep Finset.univ (homeP c X) ∗ bigSep Finset.univ (freeP (F := F) c)
            ∗ stP c arg2 f2 ∗ stP c arg6 f6 ∗ stP c arg7 f7
            ∗ ∃ g, ⌜arg8.view.read (Elt F) g = resVal c X arg0 arg1 arg2 arg4 arg5 arg6 arg7 f0 f1 f2 f4 f5 f6 f7⌝ ∗ stP c arg8 g) -∗ Q ⟨⟩))
      ⊢ wp frame (wpE (defs₀ (F := F)) Variants.none (c : Thread nD τ) none) Set.univ
        (cc0__fused_body (F := F) arg0 harg0 arg1 harg1 arg2 harg2 xM (Memref.isWhole_whole _) arg4 harg4 arg5 harg5 arg6 harg6 arg7 harg7 arg8 harg8
          bufM (Memref.isWhole_whole _) cc0_scratch1) Q := by
  have hcut := issueRun c X arg0 harg0 arg1 harg1 arg2 harg2 arg4 harg4 arg5 harg5 arg6 harg6 arg7 harg7 arg8 harg8 f0 f1 f4 f5
  iintro ⟨HP, H2, H6, H7, H8, Hk⟩
  unfold readP
  icases HP with ⟨⟨H0, H1, H4, H5, ⟨%W, HW⟩⟩, Hh, Hf⟩
  simp only [cc0__fused_body_eq_skeleton]; unfold cc0__fused_body_skel
  sl_exec
  sl_step
  ihave HI := (inv_end c X arg0 arg1 arg4 arg5 f0 f1 f4 f5 _) $$ Hk0_part2_0
  icases HI with ⟨%ha, HR, Hh, Hf⟩
  subst ha
  iapply Hk
  isplitl [HR]
  · iapply (of_eq (show readP c arg0 arg1 arg4 arg5 f0 f1 f4 f5 = iprop(stP c arg0 f0 ∗ stP c arg1 f1 ∗ stP c arg4 f4 ∗ stP c arg5 f5
      ∗ (∃ W, owes (c : Thread nD τ) 0 W)) from rfl))
    iexact HR
  isplitl [Hh]; · iexact Hh
  isplitl [Hf]; · iexact Hf
  isplitl [H2]; · iexact H2
  isplitl [H6]; · iexact H6
  isplitl [H7]; · iexact H7
  iexists _; isplitr
  swap; · iexact H8
  ipureintro; unfold resVal; exact View.read_writes_full _ _ _ _ _

end Body

end Cert.Proof.KernelIdeal

end
-- ==== Proof.KernelIdealLaunch.lean ====
/-
  The launch (`KernelIdeal`): the rows of `x` as sixteen blocks and the buffer as six slots, the pipeline's data, the run of
  the whole program, and that it leaves its arguments and every semaphore as it found them.
-/
module

public import proofs.«01_k».proof.Proof.KernelIdealBody

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

/-- The pipeline's resources beside the counters the kernel's own transfers use. -/
local notation "𝕄" => MT nD τ sig Unit (Elt F) ℕ (Pipeline.UD sig nD τ) ℕ

variable (m : (ℓ : Loc nD τ sig) → Buf (Elt F) ℓ) (ρ : Dev nD → PrngReg)

/-! ## Sixteen row blocks, six slots -/

abbrev rowSet (b : Fin 16) : Finset S32768x1024.Idx := (Rect.unit (s := S32768x1024) (rowOff b) S2048x1024.size (rowOff_inb b)).set
abbrev slotSet (s : Fin 6) : Finset S6x2048x1024.Idx := (Rect.unit (s := S6x2048x1024) (slotOff s) S1x2048x1024.size (slotOff_inb s)).set

theorem rows_set (b : Fin 16) : (rows b).view.set = rowSet b := View.set_slice_whole _ _
theorem slot_set (s : Fin 6) : (slot s).view.set = slotSet s := (View.set_reshape _ _).trans (View.set_slice_whole _ _)

theorem mem_rowSet (b : Fin 16) (y : S32768x1024.Idx) : y ∈ rowSet b ↔ 2048 * b.val ≤ (y 0).val ∧ (y 0).val < 2048 * b.val + 2048 := by
  rw [Rect.mem_set_unit]
  have h1 : (y 1).val < 1024 := (y 1).isLt
  constructor
  · intro H; exact H 0
  · intro H i; fin_cases i
    · exact H
    · show 0 ≤ (y 1).val ∧ (y 1).val < 0 + 1024; omega
theorem mem_slotSet (s : Fin 6) (y : S6x2048x1024.Idx) : y ∈ slotSet s ↔ (y 0).val = s.val := by
  rw [Rect.mem_set_unit]
  have h1 : (y 1).val < 2048 := (y 1).isLt
  have h2 : (y 2).val < 1024 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 2048; omega
    · show 0 ≤ (y 2).val ∧ (y 2).val < 0 + 1024; omega

theorem rowSet_disjoint : ∀ b b' : Fin 16, b ≠ b' → Disjoint (rowSet b) (rowSet b') := by
  intro b b' hne; rw [Finset.disjoint_left]; intro y hy hy'; rw [mem_rowSet] at hy hy'; exact hne (Fin.ext (by omega))
theorem rowSet_cover : (Finset.univ : Finset (Fin 16)).biUnion rowSet = Finset.univ := by
  ext y; simp only [Finset.mem_biUnion, Finset.mem_univ, true_and, iff_true]
  have h0 : (y 0).val < 32768 := (y 0).isLt
  exact ⟨⟨(y 0).val / 2048, by omega⟩, by rw [mem_rowSet]; dsimp only; omega⟩
theorem slotSet_disjoint : ∀ s s' : Fin 6, s ≠ s' → Disjoint (slotSet s) (slotSet s') := by
  intro s s' hne; rw [Finset.disjoint_left]; intro y hy hy'; rw [mem_slotSet] at hy hy'; exact hne (Fin.ext (hy.symm.trans hy'))
theorem slotSet_cover : (Finset.univ : Finset (Fin 6)).biUnion slotSet = Finset.univ := by
  ext y; simp only [Finset.mem_biUnion, Finset.mem_univ, true_and, iff_true]
  exact ⟨⟨(y 0).val, (y 0).isLt⟩, by rw [mem_slotSet]⟩

/-- `x` whole is its row blocks. -/
theorem x_eq (c : Dev nD) (X : Buf (Elt F) (xM.view.loc (c : Thread nD τ))) :
    (((c : Thread nD τ).loc main_arg0) ↦{fullShare} X : sProp 𝕄) = bigSep Finset.univ (homeP c X) := by
  rw [Ring.pointsTo_blocks (ℓ := (c : Thread nD τ).loc main_arg0) rowSet rowSet_disjoint rowSet_cover]
  exact bigSep_congr fun b _ => by rw [← rows_set]; rfl

theorem slotP_eq (c : Dev nD) (s : Fin 6) (f) : (slotP c s f : sProp 𝕄) = (((c : Thread nD τ).loc cc0_scratch0) ↦[slotSet s]{fullShare} f : sProp 𝕄) :=
  congrArg (fun S => (_ ↦[S]{fullShare} f : sProp 𝕄)) (slot_set s)

/-- The buffer whole, with its semaphores at zero, is its slots free; -/
theorem buf_split (c : Dev nD) :
    iprop((∃ f : Buf (Elt F) ((c : Thread nD τ).loc cc0_scratch0), ((c : Thread nD τ).loc cc0_scratch0) ↦{fullShare} f)
        ∗ cellP c 0 ∗ cellP c 1 ∗ cellP c 2 ∗ cellP c 3 ∗ cellP c 4 ∗ cellP c 5)
      ⊢ (bigSep Finset.univ (freeP c) : sProp 𝕄) := by
  rw [bigSep_fin6]
  unfold freeP
  iintro ⟨⟨%f, H⟩, C0, C1, C2, C3, C4, C5⟩
  ihave H2 := (of_eq ((Ring.pointsTo_blocks (Ix := Unit) (Name := ℕ) (U := Pipeline.UD sig nD τ) (Lvl := ℕ) (q := fullShare)
    (ℓ := (c : Thread nD τ).loc cc0_scratch0) slotSet slotSet_disjoint slotSet_cover f).trans (bigSep_fin6 _))) $$ H
  icases H2 with ⟨H0, H1, H2, H3, H4, H5⟩
  isplitl [C0 H0]
  · isplitl [C0]; · iexact C0
    iexists f; iapply (of_eq (slotP_eq c 0 f).symm); iexact H0
  isplitl [C1 H1]
  · isplitl [C1]; · iexact C1
    iexists f; iapply (of_eq (slotP_eq c 1 f).symm); iexact H1
  isplitl [C2 H2]
  · isplitl [C2]; · iexact C2
    iexists f; iapply (of_eq (slotP_eq c 2 f).symm); iexact H2
  isplitl [C3 H3]
  · isplitl [C3]; · iexact C3
    iexists f; iapply (of_eq (slotP_eq c 3 f).symm); iexact H3
  isplitl [C4 H4]
  · isplitl [C4]; · iexact C4
    iexists f; iapply (of_eq (slotP_eq c 4 f).symm); iexact H4
  isplitl [C5]; · iexact C5
  iexists f; iapply (of_eq (slotP_eq c 5 f).symm); iexact H5
/-- and back. -/
theorem buf_join (c : Dev nD) :
    (bigSep Finset.univ (freeP c) : sProp 𝕄)
      ⊢ iprop((∃ f : Buf (Elt F) ((c : Thread nD τ).loc cc0_scratch0), ((c : Thread nD τ).loc cc0_scratch0) ↦{fullShare} f)
        ∗ cellP c 0 ∗ cellP c 1 ∗ cellP c 2 ∗ cellP c 3 ∗ cellP c 4 ∗ cellP c 5) := by
  rw [bigSep_fin6]
  unfold freeP
  iintro ⟨⟨C0, ⟨%f0, H0⟩⟩, ⟨C1, ⟨%f1, H1⟩⟩, ⟨C2, ⟨%f2, H2⟩⟩, ⟨C3, ⟨%f3, H3⟩⟩, ⟨C4, ⟨%f4, H4⟩⟩, ⟨C5, ⟨%f5, H5⟩⟩⟩
  isplitl [H0 H1 H2 H3 H4 H5]
  · iapply (Ring.pointsTo_blocks_join_exists (ℓ := (c : Thread nD τ).loc cc0_scratch0) slotSet slotSet_disjoint slotSet_cover f0)
    irw [bigSep_fin6]
    isplitl [H0]; · iexists f0; iapply (of_eq (slotP_eq c 0 f0)); iexact H0
    isplitl [H1]; · iexists f1; iapply (of_eq (slotP_eq c 1 f1)); iexact H1
    isplitl [H2]; · iexists f2; iapply (of_eq (slotP_eq c 2 f2)); iexact H2
    isplitl [H3]; · iexists f3; iapply (of_eq (slotP_eq c 3 f3)); iexact H3
    isplitl [H4]; · iexists f4; iapply (of_eq (slotP_eq c 4 f4)); iexact H4
    iexists f5; iapply (of_eq (slotP_eq c 5 f5)); iexact H5
  isplitl [C0]; · iexact C0
  isplitl [C1]; · iexact C1
  isplitl [C2]; · iexact C2
  isplitl [C3]; · iexact C3
  isplitl [C4]; · iexact C4
  iexact C5

/-! ## The program up to the kernel -/

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- The kernel's own semaphores: the six slots'. -/
abbrev osem : Fin 6 → SemLoc sig := fun s => .dma (cell s).sem
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(cellP c 0 ∗ cellP c 1 ∗ cellP c 2 ∗ cellP c 3 ∗ cellP c 4 ∗ cellP c 5) := by
  unfold Pipeline.ownSems0; rw [bigSep_fin6]
/-- The operand the kernel addresses itself. -/
def H0 : Finset (Ref sig .tc) := {main_arg0}
theorem H0_sub : H0 ⊆ Pipeline.restRefs sig spec0 := by decide
theorem bigSep_H0 (c : Dev nD) : (bigSep H0 (fun b => ((c : Thread nD τ).loc b) ↦{fullShare} V m c b) : sProp 𝕄)
    = (((c : Thread nD τ).loc main_arg0) ↦{fullShare} V m c main_arg0 : sProp 𝕄) := by unfold H0; rw [bigSep_singleton]

/-! ## The pipeline's data -/

/-- The result's block as the body leaves it. -/
def outsAt (c : Dev nD) (t : Fin cfg0.N) : Vec F S16x128 .f32 :=
  resVal c (V m c main_arg0) (st0_0 t) (st0_1 t) (st0_2 t) (st0_3 t) (st0_4 t) (st0_5 t) (st0_6 t)
    ((st0_0 t).view.rep (iblk m c 0 t)) ((st0_1 t).view.rep (iblk m c 1 t)) ((st0_2 t).view.rep (iblk m c 2 t)) ((st0_3 t).view.rep (iblk m c 3 t))
    ((st0_4 t).view.rep (iblk m c 4 t)) ((st0_5 t).view.rep (iblk m c 5 t)) ((st0_6 t).view.rep (iblk m c 6 t))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outsAt m c t
  Φ _ := Pipeline.ΦD osem spec0 H0 (V m) c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outsAt m c t := by dsimp only [dats]
theorem before_0 (c : Dev nD) (t : Fin cfg0.N) (d) : (dats m 0 c).before 0 t d = iblk m c 0 t := by
  unfold Dat.before; rw [if_pos (fetch0_0 t)]; unfold Dat.fetched Dat.blockOf iblk; rw [A_eq]; rfl
theorem before_1 (c : Dev nD) (t : Fin cfg0.N) (d) : (dats m 0 c).before 1 t d = iblk m c 1 t := by
  unfold Dat.before; rw [if_pos (fetch0_1 t)]; unfold Dat.fetched Dat.blockOf iblk; rw [A_eq]; rfl
theorem before_2 (c : Dev nD) (t : Fin cfg0.N) (d) : (dats m 0 c).before 2 t d = iblk m c 2 t := by
  unfold Dat.before; rw [if_pos (fetch0_2 t)]; unfold Dat.fetched Dat.blockOf iblk; rw [A_eq]; rfl
theorem before_3 (c : Dev nD) (t : Fin cfg0.N) (d) : (dats m 0 c).before 3 t d = iblk m c 3 t := by
  unfold Dat.before; rw [if_pos (fetch0_3 t)]; unfold Dat.fetched Dat.blockOf iblk; rw [A_eq]; rfl
theorem before_4 (c : Dev nD) (t : Fin cfg0.N) (d) : (dats m 0 c).before 4 t d = iblk m c 4 t := by
  unfold Dat.before; rw [if_pos (fetch0_4 t)]; unfold Dat.fetched Dat.blockOf iblk; rw [A_eq]; rfl
theorem before_5 (c : Dev nD) (t : Fin cfg0.N) (d) : (dats m 0 c).before 5 t d = iblk m c 5 t := by
  unfold Dat.before; rw [if_pos (fetch0_5 t)]; unfold Dat.fetched Dat.blockOf iblk; rw [A_eq]; rfl
theorem before_6 (c : Dev nD) (t : Fin cfg0.N) (d) : (dats m 0 c).before 6 t d = iblk m c 6 t := by
  unfold Dat.before; rw [if_pos (fetch0_6 t)]; unfold Dat.fetched Dat.blockOf iblk; rw [A_eq]; rfl

/-! ## The body at the one point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d))
    ∗ (∃ d, owns (c : Thread nD τ) (st0_4 t) fullShare ((dats m 0 c).before 4 t d)) ∗ (∃ d, owns (c : Thread nD τ) (st0_5 t) fullShare ((dats m 0 c).before 5 t d))
    ∗ (∃ d, owns (c : Thread nD τ) (st0_6 t) fullShare ((dats m 0 c).before 6 t d)) ∗ (∃ d, owns (c : Thread nD τ) (st0_7 t) fullShare ((dats m 0 c).before 7 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t)
    ∗ owns (c : Thread nD τ) (st0_2 t) fullShare ((dats m 0 c).after 2 t) ∗ owns (c : Thread nD τ) (st0_3 t) fullShare ((dats m 0 c).after 3 t)
    ∗ owns (c : Thread nD τ) (st0_4 t) fullShare ((dats m 0 c).after 4 t) ∗ owns (c : Thread nD τ) (st0_5 t) fullShare ((dats m 0 c).after 5 t)
    ∗ owns (c : Thread nD τ) (st0_6 t) fullShare ((dats m 0 c).after 6 t) ∗ owns (c : Thread nD τ) (st0_7 t) fullShare ((dats m 0 c).after 7 t))

theorem own_rep (c : Dev nD) {S : Shape} {e : EltTy} (A : Memref sig .tc .vmem S e) (v : S.Idx → Elt F e) :
    (owns (c : Thread nD τ) A fullShare v : sProp 𝕄) ⊢ stP c A (A.view.rep v) := by
  unfold owns
  iintro ⟨%g, %hg, H⟩
  subst hg
  iapply (pointsTo_rep_entails (c : Thread nD τ) A g fullShare); iexact H
theorem rep_own (c : Dev nD) {S : Shape} {e : EltTy} (A : Memref sig .tc .vmem S e) (v : S.Idx → Elt F e) :
    stP c A (A.view.rep v) ⊢ (owns (c : Thread nD τ) A fullShare v : sProp 𝕄) := by
  unfold owns
  iintro H
  iexists _; isplitr
  swap; · iexact H
  ipureintro; exact View.read_rep _ _

set_option backward.isDefEq.respectTransparency.types false in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [after_0, after_1, after_2, after_3, after_4, after_5, after_6, after_7]
  simp only [before_0, before_1, before_2, before_3, before_4, before_5, before_6]
  rw [show (dats m 0 c).Φ t.succ = Pipeline.ΦD osem spec0 H0 (V m) c from rfl,
    show (dats m 0 c).Φ t.castSucc = Pipeline.ΦD osem spec0 H0 (V m) c from rfl, Pipeline.ΦD_eq, scopedRest0_eq, ownSems_eq, bigSep_H0, x_eq]
  unfold Dat.owesAt Pipeline.owesWithin
  rw [show (dats m 0 c).owed t.castSucc = 0 from rfl, show (dats m 0 c).owed t.succ = 0 from rfl]
  iintro ⟨⟨Hbuf, Hg, Hcells, Hx⟩, ⟨%W, -, HW⟩, ⟨%d0, B0⟩, ⟨%d1, B1⟩, ⟨%d2, B2⟩, ⟨%d3, B3⟩, ⟨%d4, B4⟩, ⟨%d5, B5⟩, ⟨%d6, B6⟩, ⟨%d7, B7⟩⟩
  ihave Hfree := (buf_split c) $$ [Hbuf Hcells]
  · isplitl [Hbuf]; · iexact Hbuf
    iexact Hcells
  ihave C0 := (own_rep c _ _) $$ B0
  ihave C1 := (own_rep c _ _) $$ B1
  ihave C2 := (own_rep c _ _) $$ B2
  ihave C3 := (own_rep c _ _) $$ B3
  ihave C4 := (own_rep c _ _) $$ B4
  ihave C5 := (own_rep c _ _) $$ B5
  ihave C6 := (own_rep c _ _) $$ B6
  ihave C7 := (own_rep c _ _) $$ B7
  iapply (bodyRun c (V m c main_arg0) (st0_0 t) _ (st0_1 t) _ (st0_2 t) _ (st0_3 t) _ (st0_4 t) _ (st0_5 t) _ (st0_6 t) _ (st0_7 t) _
    ((st0_0 t).view.rep (iblk m c 0 t)) ((st0_1 t).view.rep (iblk m c 1 t)) ((st0_2 t).view.rep (iblk m c 2 t)) ((st0_3 t).view.rep (iblk m c 3 t))
    ((st0_4 t).view.rep (iblk m c 4 t)) ((st0_5 t).view.rep (iblk m c 5 t)) ((st0_6 t).view.rep (iblk m c 6 t)) _ _)
  isplitl [C0 C1 C3 C4 HW Hx Hfree]
  · isplitl [C0 C1 C3 C4 HW]
    · unfold readP
      isplitl [C0]; · iexact C0
      isplitl [C1]; · iexact C1
      isplitl [C3]; · iexact C3
      isplitl [C4]; · iexact C4
      iexists _; iexact HW
    isplitl [Hx]; · iexact Hx
    iexact Hfree
  isplitl [C2]; · iexact C2
  isplitl [C5]; · iexact C5
  isplitl [C6]; · iexact C6
  isplitl [C7]; · iexact C7
  unfold readP
  iintro ⟨⟨C0, C1, C3, C4, ⟨%W', HW⟩⟩, Hx, Hfree, C2, C5, C6, ⟨%g, %hgv, C7⟩⟩
  ihave Hb := (buf_join c) $$ Hfree
  icases Hb with ⟨Hbuf, Hcells⟩
  isplitl [Hbuf Hg Hcells Hx]
  · isplitl [Hbuf]; · iexact Hbuf
    isplitl [Hg]; · iexact Hg
    isplitl [Hcells]; · iexact Hcells
    iexact Hx
  isplitl [HW]
  · iexists W'; isplitr; · ipureintro; exact fun _ _ => Or.inl trivial
    iexact HW
  isplitl [C0]; · iapply (rep_own c _ _); iexact C0
  isplitl [C1]; · iapply (rep_own c _ _); iexact C1
  isplitl [C2]; · iapply (rep_own c _ _); iexact C2
  isplitl [C3]; · iapply (rep_own c _ _); iexact C3
  isplitl [C4]; · iapply (rep_own c _ _); iexact C4
  isplitl [C5]; · iapply (rep_own c _ _); iexact C5
  isplitl [C6]; · iapply (rep_own c _ _); iexact C6
  unfold owns
  iexists _; isplitr
  swap; · iexact C7
  ipureintro; exact hgv

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- The whole program ends with the pipeline's arrays at their computed contents, everything else as it was when the
    kernel was entered, and every semaphore at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem defs₀ Variants.none ownSemFacts H0 H0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- An ending memory keeps the arguments. -/
def Kept (r : PUnit × MemSt nD τ sig (Elt F)) : Prop := ∀ c : Dev nD,
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)

theorem kept_of (r : PUnit × MemSt nD τ sig (Elt F)) (h : Pipeline.FramePost cfgs (dats m) 0 (V m) r) : Kept m r := fun c =>
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).1 3).trans (((dats m 0 c).arrAt_in 3 rfl _).trans ((A_eq m c 3).trans (V_main_arg2 m c))),
    ((h c).2 main_arg3 (Pipeline.mem_restRefs_of main_arg3 (by decide) (by decide))).trans (V_main_arg3 m c),
    ((h c).1 5).trans (((dats m 0 c).arrAt_in 5 rfl _).trans ((A_eq m c 5).trans (V_main_arg4 m c))),
    ((h c).2 main_arg5 (Pipeline.mem_restRefs_of main_arg5 (by decide) (by decide))).trans (V_main_arg5 m c)⟩

theorem frame : θ_run defs (onTc (τ := τ) (main (F := F))) ⟨m, fun _ => 0, ρ⟩ (fun r => Kept m r ∧ r.2.sem = fun _ => 0) :=
  (θ_run defs _ _).mono (fun r h => ⟨kept_of m r h.1, h.2⟩) (run_main m ρ)

end Cert.Proof.KernelIdeal

end
-- ==== Proof.Bags.lean ====
/-
  Bags as numbers. Sixteen bags of `cnt b` rows each, laid one after the other: the rows before a bag, the bag of a row, and
  when a row lies in a bag. Nothing here names a program.
-/
module

public import Idealize.ShloMosaic.Lib.Routing.Ops

@[expose] public section

namespace Cert.Proof.Bags

open Idealize.ShloMosaic Idealize.ShloMosaic.Routing

/-- The number of rows before bag `b`. -/
def before (cnt : ℕ → ℕ) (b : ℕ) : ℕ := ((List.range b).map cnt).sum

variable (cnt : ℕ → ℕ)

theorem before_zero : before cnt 0 = 0 := rfl
theorem before_succ (b : ℕ) : before cnt (b + 1) = before cnt b + cnt b := by
  unfold before; rw [List.range_succ, List.map_append, List.sum_append]; simp
theorem before_mono {a b : ℕ} (h : a ≤ b) : before cnt a ≤ before cnt b := by
  induction h with
  | refl => exact le_refl _
  | step _ ih => rw [before_succ]; omega
theorem before_le (h : ∀ b < 16, cnt b ≤ 32768) : ∀ b ≤ 16, before cnt b ≤ 32768 * b := by
  intro b
  induction b with
  | zero => intro _; rw [before_zero]
  | succ b ih => intro hb; rw [before_succ]; have := ih (by omega); have := h b (by omega); omega

/-- The counts moved up by one bag, bag 0 given none: their sum up to and including bag `b` is the rows before bag `b`. -/
theorem sum_shifted (b : ℕ) : ((List.range (b + 1)).map fun i => if i = 0 then 0 else cnt (i - 1)).sum = before cnt b := by
  induction b with
  | zero => rfl
  | succ b ih => rw [List.range_succ, List.map_append, List.sum_append, ih, before_succ]; simp

/-- How many of the sixteen bags start at or before row `j`. -/
def started (j : ℕ) : ℕ := Nat.count (fun b => before cnt b ≤ j) 16

theorem started_pos (j : ℕ) : 0 < started cnt j :=
  (lt_count_iff (Q := fun b => before cnt b ≤ j) (fun a b hab _ hb => (before_mono cnt hab).trans hb) (by omega)).mp (Nat.zero_le _)
theorem started_le (j : ℕ) : started cnt j ≤ 16 := Nat.count_le _

/-- Where the bags hold every row, the last bag that starts at or before row `j` is bag `b` exactly when `j` lies in bag `b`. -/
theorem started_iff (htot : 32768 ≤ before cnt 16) {j : ℕ} (hj : j < 32768) {b : ℕ} (hb : b < 16) :
    started cnt j = b + 1 ↔ before cnt b ≤ j ∧ j < before cnt (b + 1) := by
  have key : ∀ r < 16, (before cnt r ≤ j ↔ r < started cnt j) := fun r hr =>
    lt_count_iff (Q := fun b => before cnt b ≤ j) (fun a b hab _ hb => (before_mono cnt hab).trans hb) hr
  have h0 := key b hb
  have hle := started_le cnt j
  rcases Nat.lt_or_ge (b + 1) 16 with h | h
  · have h1 := key (b + 1) h; omega
  · have e : b + 1 = 16 := by omega
    rw [e]; omega

end Cert.Proof.Bags
-- ==== Proof.KernelIdealTables.lean ====
/-
  What the kernel's staged tables hold, at an index: the bags' starts and ends, the reciprocals of their sizes, the biases.
-/
module

public import proofs.«01_k».proof.Proof.KernelIdealLaunch
public import proofs.«01_k».proof.Proof.Bags
public import Idealize.ShloMosaic.Lib.Pointwise
public import Idealize.ShloMosaic.Lib.Pointwise.IndexBridge
public import Idealize.ShloMosaic.Lib.Routing.Ops
public import Idealize.ShloMosaic.Lib.StableHlo.ReadAt
public import Idealize.ShloMosaic.Lib.Pipeline.ValueKit

@[expose] public section

set_option maxRecDepth 16384

noncomputable section

namespace Cert.Proof.KernelIdeal

open Cert.KernelIdeal Cert.KernelIdeal.Gen Cert.Proof.Bags
open Idealize.ShloMosaic Idealize.ShloMosaic.TcCoe

variable (m : (ℓ : Loc nD τ sig) → Buf (Elt Ideal) ℓ) (c : Dev nD)

section Bounds
variable {cnt : ℕ → ℕ} (hn : ∀ b : Fin 16, m ((c : Thread nD τ).loc main_arg1) (ValueIdx.ix1 b) = BitVec.ofNat 32 (cnt b.val))
include hn

/-- The running sums of the sizes. -/
theorem running_at (b : Fin 16) :
    Host.reduceWindow IntOp.addi ![16] ![1] ![15] ![0] (m (c, Proc.tc.devRef main_arg1))
      (broadcastInDim S_ ![] bcast_S_S_ (constantI S_ 32 0#32)) reduceWindows_S16_S16_w16s1p15_0 h_S_ (ix1 b) = BitVec.ofNat 32 (before cnt (b.val + 1)) := by
  rw [ix1_eq_valueIdx]
  exact Routing.cumsum1 (by norm_num) _ cnt hn _ rfl _ _ b
theorem starts_at (b : Fin 16) (l : Fin 128) : V m c main_v8 (ix2 b l) = BitVec.ofNat 32 (before cnt b.val) := by
  unfold V
  after_reads_at
  rw [running_at m c hn, ix1_eq_valueIdx]
  refine (congrArg (IntOp.subi _) (hn b)).trans ?_
  unfold IntOp.subi
  rw [before_succ, BitVec.ofNat_add, BitVec.add_sub_cancel]
theorem ends_at (b : Fin 16) (l : Fin 128) : V m c main_v10 (ix2 b l) = BitVec.ofNat 32 (before cnt (b.val + 1)) := by
  unfold V
  after_reads_at
  exact running_at m c hn b

end Bounds

theorem inv_at (b : Fin 16) (l : Fin 128) :
    V m c main_v12 (ix2 b l) = Ideal.div 1 (FloatOps.sitofp (F := Ideal) .f32 (IntOp.maxsi (m ((c : Thread nD τ).loc main_arg1) (ix1 b)) 1#32)) := by
  unfold V
  after_reads_at
theorem bias1_at (b : Fin 8) (l : Fin 512) : V m c main_v14 (ix2 b l) = m ((c : Thread nD τ).loc main_arg3) (ix1 l) := by
  unfold V
  after_reads_at
theorem bias2_at (b : Fin 8) (l : Fin 128) : V m c main_v16 (ix2 b l) = m ((c : Thread nD τ).loc main_arg5) (ix1 l) := by
  unfold V
  after_reads_at

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

theorem blk0 (t : Fin cfg0.N) : iblk m c 0 t = V m c main_v8 := by funext j; blk_ext [iblk, idx t]
theorem blk1 (t : Fin cfg0.N) : iblk m c 1 t = V m c main_v10 := by funext j; blk_ext [iblk, idx t]
theorem blk2 (t : Fin cfg0.N) : iblk m c 2 t = V m c main_v12 := by funext j; blk_ext [iblk, idx t]
theorem blk3 (t : Fin cfg0.N) : iblk m c 3 t = V m c main_arg2 := by funext j; blk_ext [iblk, idx t]
theorem blk4 (t : Fin cfg0.N) : iblk m c 4 t = V m c main_v14 := by funext j; blk_ext [iblk, idx t]
theorem blk5 (t : Fin cfg0.N) : iblk m c 5 t = V m c main_arg4 := by funext j; blk_ext [iblk, idx t]
theorem blk6 (t : Fin cfg0.N) : iblk m c 6 t = V m c main_v16 := by funext j; blk_ext [iblk, idx t]

end Cert.Proof.KernelIdeal

end
-- ==== Proof.KernelIdealReads.lean ====
/-
  What the kernel's loads read, at an index: a staged table's column or row, and a row block of `x` through its slot.
-/
module

public import proofs.«01_k».proof.Proof.KernelIdealTrip
public import Idealize.ShloMosaic.Lib.VecWindow
public import Idealize.ShloMosaic.Lib.Pointwise.Index
public import Idealize.ShloMosaic.Lib.Pointwise.IndexBridge
public import Idealize.ShloMosaic.Lib.ValueLayout
public import Idealize.ShloMosaic.Lib.Pipeline.Value

@[expose] public section

noncomputable section

namespace Cert.Proof.KernelIdeal

open Cert.KernelIdeal Cert.KernelIdeal.Gen
open Idealize.ShloMosaic Idealize.ShloMosaic.TcCoe

variable {F : FTy → Type} [FloatOps F] (c : Dev nD)

/-- The first column of a staged table. -/
theorem col_at {e : EltTy} (A : Memref sig .tc .vmem S16x128 e) (x : S16x128.Idx → Elt F e) (b : Fin 16) :
    A.view.readAt (Elt F) (Rect.unit (s := S16x128) ![0, 0] S16x1.size inb_S16x128_S16x1_0_0).toLoadRect (A.view.rep x) (ix2 b 0) = x (ix2 b 0) := by
  rw [View.readAt_rep]
  refine congrArg x (funext fun a => Fin.ext ?_)
  match a with
  | ⟨0, _⟩ => show 0 + 1 * b.val = b.val; omega
  | ⟨1, _⟩ => rfl

/-- The first row of a staged bias. -/
theorem row512_at (A : Memref sig .tc .vmem S8x512 .f32) (x : S8x512.Idx → Elt F .f32) (f : Fin 512) :
    A.view.readAt (Elt F) (Rect.unit (s := S8x512) ![0, 0] S1x512.size inb_S8x512_S1x512_0_0).toLoadRect (A.view.rep x) (ix2 0 f) = x (ix2 0 f) := by
  rw [View.readAt_rep]
  refine congrArg x (funext fun a => Fin.ext ?_)
  match a with
  | ⟨0, _⟩ => rfl
  | ⟨1, _⟩ => show 0 + 1 * f.val = f.val; omega
theorem row128_at (A : Memref sig .tc .vmem S8x128 .f32) (x : S8x128.Idx → Elt F .f32) (o : Fin 128) :
    A.view.readAt (Elt F) (Rect.unit (s := S8x128) ![0, 0] S1x128.size inb_S8x128_S1x128_0_0).toLoadRect (A.view.rep x) (ix2 0 o) = x (ix2 0 o) := by
  rw [View.readAt_rep]
  refine congrArg x (funext fun a => Fin.ext ?_)
  match a with
  | ⟨0, _⟩ => rfl
  | ⟨1, _⟩ => show 0 + 1 * o.val = o.val; omega

variable (X : Buf (Elt F) (xM.view.loc (c : Thread nD τ)))

/-- A slot read through its own name and through the whole buffer at the slot's offsets. -/
theorem slot_read (s : Fin 6) (f : Buf (Elt F) ((slot s).view.loc (c : Thread nD τ))) {off : Fin 3 → ℕ} (e : off = slotOff s)
    (inb : ∀ a, off a + S1x2048x1024.size a ≤ S6x2048x1024.size a) (r : Fin 2048) (q : Fin 1024) :
    bufM.view.readAt (Elt F) (Rect.unit (s := S6x2048x1024) off S1x2048x1024.size inb).toLoadRect f (ix3 0 r q) = (slot s).view.read (Elt F) f (ix2 r q) := by
  subst e
  have h : (slot s).view.read (Elt F) f = shapeCast S2048x1024
      (bufM.view.readAt (Elt F) (Rect.unit (s := S6x2048x1024) (slotOff s) S1x2048x1024.size (slotOff_inb s)).toLoadRect f) shapeCasts_S1x2048x1024_S2048x1024 :=
    Memref.read_squeeze_slice bufM _ _ squeezes_S1x2048x1024_S2048x1024 _ f
  rw [h, ix2_eq_valueIdx, ix3_eq_valueIdx]
  exact (ValueIdx.shapeCast_1ab_ab_apply _ _ r q).symm

/-- Row `r` of a row block. -/
theorem rows_read (b : Fin 16) (r : Fin 2048) (q : Fin 1024) (h : 2048 * b.val + r.val < 32768) :
    (rows b).view.read (Elt F) X (ix2 r q) = X (ix2 ⟨2048 * b.val + r.val, h⟩ q) := by
  show X ((Rect.unit (s := S32768x1024) (rowOff b) S2048x1024.size (rowOff_inb b)).idx (ix2 r q)) = _
  refine congrArg X (funext fun a => Fin.ext ?_)
  match a with
  | ⟨0, _⟩ => show 2048 * b.val + 1 * r.val = 2048 * b.val + r.val; omega
  | ⟨1, _⟩ => show 0 + 1 * q.val = q.val; omega

/-- What trip `k` reads of its slot: row `r` of block `k` is row `2048 * k + r` of `x`. -/
theorem slotRead_at (k : Fin k0_t1_loop.trips) (hk : k.val < 16) (r : Fin 2048) (q : Fin 1024) (h : 2048 * k.val + r.val < 32768) :
    slotRead c X k (ix3 0 r q) = X (ix2 ⟨2048 * k.val + r.val, h⟩ q) := by
  have hread : (slot (Ring.sl 6 k.val)).view.read (Elt F) (landed c X (Ring.sl 6 k.val) (Ring.bk 16 k.val) (slot (Ring.sl 6 k.val)).view.junk)
      = words c X (Ring.bk 16 k.val) := View.read_writes_whole _ _ _
  have hb : (Ring.bk 16 k.val).val = k.val := Nat.mod_eq_of_lt hk
  unfold slotRead
  rw [slot_read c (Ring.sl 6 k.val) _ (off7_eq k), hread]
  refine (rows_read c X (Ring.bk 16 k.val) r q (by rw [hb]; exact h)).trans ?_
  exact congrArg (fun i => X (ix2 i q)) (Fin.ext (by show 2048 * (Ring.bk 16 k.val).val + r.val = _; rw [hb]))

end Cert.Proof.KernelIdeal

end
-- ==== Proof.KernelIdealPays.lean ====
/-
  What a trip of the kernel's loop and the lines after the loop compute, at an index.
-/
module

public import proofs.«01_k».proof.Proof.Gen.KernelIdeal.Skeleton
public import Idealize.ShloMosaic.Lib.Pointwise
public import Idealize.ShloMosaic.Lib.IdealHost
public import Idealize.ShloMosaic.PureOps.Ideal.Laws
public import Idealize.ShloMosaic.Lib.StableHlo.Predicate

@[expose] public section

set_option maxRecDepth 16384

noncomputable section

namespace Cert.Proof.KernelIdeal

open Cert.KernelIdeal Cert.KernelIdeal.Gen
open Idealize.ShloMosaic Idealize.ShloMosaic.TcCoe

theorem start_at (j : S16x512.Idx) : (k0_pay1 : FVec Ideal S16x512 .f32) j = (0 : EReal) := by
  pointwise [k0_pay1]

/-- A trip's hidden values. -/
theorem trip_hidden_at (x : Vec Ideal S1x2048x1024 .f32) (W : Vec Ideal S1024x512 .f32) (b : Vec Ideal S1x512 .f32) (r : Fin 2048) (f : Fin 512) :
    (k0_pay4 x W b : FVec Ideal S2048x512 .f32) (ix2 r f) = max ((∑ k : Fin 1024, x (ix3 0 r k) * W (ix2 k f)) + b (ix2 0 f)) (0 : EReal) := by
  pointwise [k0_pay4]

/-- A row number compared with a bag's start and end. -/
theorem pick_word {B r s e : ℕ} (hB : B ≤ 32768) (hr : r < 2048) (hs : s ≤ 1000000) (he : e ≤ 1000000) (x : EReal) :
    Scalar.select (IntOp.andi (IntOp.cmpi .sge (IntOp.addi (BitVec.ofNat 32 B) (BitVec.ofNat 32 r)) (BitVec.ofNat 32 s))
        (IntOp.cmpi .slt (IntOp.addi (BitVec.ofNat 32 B) (BitVec.ofNat 32 r)) (BitVec.ofNat 32 e))) x 0
      = if s ≤ B + r ∧ B + r < e then x else 0 := by
  have hw : IntOp.addi (BitVec.ofNat 32 B) (BitVec.ofNat 32 r) = BitVec.ofNat 32 (B + r) := by
    unfold IntOp.addi; rw [BitVec.ofNat_add]
  rw [hw]
  have h1 := StableHlo.Predicate.toInt_ofNat_small (a := B + r) (by omega)
  have h2 := StableHlo.Predicate.toInt_ofNat_small (a := s) (by omega)
  have h3 := StableHlo.Predicate.toInt_ofNat_small (a := e) (by omega)
  have g1 : ((s : ℤ) ≤ (B : ℤ) + (r : ℤ)) = (s ≤ B + r) := propext (by omega)
  have g2 : ((B : ℤ) + (r : ℤ) < (e : ℤ)) = (B + r < e) := propext (by omega)
  by_cases c1 : s ≤ B + r <;> by_cases c2 : B + r < e <;>
    simp [Scalar.select, IntOp.andi, IntOp.cmpi, BitVec.sle, BitVec.slt, h1, h2, h3, g1, g2, c1, c2]

/-- A trip's accumulator: the one before it plus, for bag `b`, the hidden values of the block's rows that lie in the bag. -/
theorem trip_acc_at (acc : FVec Ideal S16x512 .f32) (h : FVec Ideal S2048x512 .f32) (start stop : Vec Ideal S16x1 .i32) (b : Fin 16) (f : Fin 512)
    {B s e : ℕ} (hB : B ≤ 32768) (hs : s ≤ 1000000) (he : e ≤ 1000000)
    (hstart : start (ix2 b 0) = BitVec.ofNat 32 s) (hstop : stop (ix2 b 0) = BitVec.ofNat 32 e) :
    (k0_pay2 acc h (BitVec.ofNat 32 B) (iota .tc S1x2048 32 [1] iota_S1x2048_d1_w32) start stop : FVec Ideal S16x512 .f32) (ix2 b f)
      = acc (ix2 b f) + ∑ r : Fin 2048, if s ≤ B + r.val ∧ B + r.val < e then h (ix2 r f) else (0 : EReal) := by
  pointwise [k0_pay2]
  refine congrArg (acc (ix2 b f) + ·) (Finset.sum_congr rfl fun r _ => ?_)
  rw [hstart, hstop]
  exact pick_word hB r.isLt hs he _

/-- The lines after the loop. -/
theorem tail_at (acc : FVec Ideal S16x512 .f32) (inv : Vec Ideal S16x1 .f32) (W : Vec Ideal S512x128 .f32) (b2 : Vec Ideal S1x128 .f32) (b : Fin 16) (o : Fin 128) :
    (k0_pay3 acc inv W b2 : FVec Ideal S16x128 .f32) (ix2 b o)
      = Ideal.tanh ((∑ f : Fin 512, (acc (ix2 b f) * inv (ix2 b 0)) * W (ix2 f o)) + b2 (ix2 0 o)) := by
  pointwise [k0_pay3]

end Cert.Proof.KernelIdeal

end
-- ==== Proof.KernelIdealSum.lean ====
/-
  What the kernel's accumulator holds after its loop: per bag the sum of the hidden values of the bag's rows.
-/
module

public import proofs.«01_k».proof.Proof.KernelIdealReads
public import proofs.«01_k».proof.Proof.KernelIdealPays
public import proofs.«01_k».proof.Proof.Bags

@[expose] public section

noncomputable section

namespace Cert.Proof.KernelIdeal

open Cert.KernelIdeal Cert.KernelIdeal.Gen Cert.Proof.Bags
open Idealize.ShloMosaic Idealize.ShloMosaic.TcCoe

/-- Trip `k`'s first row number, as the trip computes it. -/
theorem base_eq : ∀ k : Fin k0_t1_loop.trips, Scalar.muli (Scf.iv 0#32 1#32 k) 2048#32 = BitVec.ofNat 32 (2048 * k.val) := by decide +kernel

variable (c : Dev nD) (X : Buf (Elt Ideal) (xM.view.loc (c : Thread nD τ)))
  (arg0 arg1 : Memref sig .tc .vmem S16x128 .i32) (arg4 : Memref sig .tc .vmem S1024x512 .f32) (arg5 : Memref sig .tc .vmem S8x512 .f32)
  (f0 : Buf (Elt Ideal) (arg0.view.loc (c : Thread nD τ))) (f1 : Buf (Elt Ideal) (arg1.view.loc (c : Thread nD τ)))
  (f4 : Buf (Elt Ideal) (arg4.view.loc (c : Thread nD τ))) (f5 : Buf (Elt Ideal) (arg5.view.loc (c : Thread nD τ)))
  {cnt : ℕ → ℕ} (hc : ∀ b < 16, cnt b ≤ 32768)
  (hstart : ∀ b : Fin 16, colRead c arg0 f0 (ix2 b 0) = BitVec.ofNat 32 (before cnt b.val))
  (hstop : ∀ b : Fin 16, colRead c arg1 f1 (ix2 b 0) = BitVec.ofNat 32 (before cnt (b.val + 1)))
  {H : ℕ → Fin 512 → EReal}
  (hH : ∀ (k : Fin k0_t1_loop.trips) (r : Fin 2048) (f : Fin 512),
    (k0_pay4 (slotRead c X k) (w1Read c arg4 f4) (b1Read c arg5 f5) : FVec Ideal S2048x512 .f32) (ix2 r f) = H (2048 * k.val + r.val) f)
include hc hstart hstop hH

/-- Before trip `k` the accumulator holds the sums over the rows of the blocks before `k`. -/
theorem acc_before (b : Fin 16) (f : Fin 512) : ∀ k ≤ 16, accAt c X arg0 arg1 arg4 arg5 f0 f1 f4 f5 k (ix2 b f)
    = ∑ j ∈ Finset.range (2048 * k), if before cnt b.val ≤ j ∧ j < before cnt (b.val + 1) then H j f else (0 : EReal) := by
  intro k
  induction k with
  | zero => intro _; unfold accAt; rw [start_at]; rfl
  | succ k ih =>
    intro hk
    have ht : k < k0_t1_loop.trips := by rw [trips_eq]; omega
    have hb1 := before_le cnt hc b.val (by have := b.isLt; omega)
    have hb2 := before_le cnt hc (b.val + 1) (by have := b.isLt; omega)
    have hb := b.isLt
    unfold accAt
    rw [dif_pos ht]
    unfold stepVal
    rw [base_eq]
    refine (trip_acc_at _ _ _ _ b f (by show 2048 * k ≤ 32768; omega) (by omega) (by omega) (hstart b) (hstop b)).trans ?_
    rw [show 2048 * (k + 1) = 2048 * k + 2048 from by ring, Finset.sum_range_add, ← ih (by omega), Finset.sum_range]
    refine congrArg (accAt c X arg0 arg1 arg4 arg5 f0 f1 f4 f5 k (ix2 b f) + ·) (Finset.sum_congr rfl fun r _ => ?_)
    rw [hH]

/-- After the loop: the sums over every row. -/
theorem acc_end (b : Fin 16) (f : Fin 512) : accAt c X arg0 arg1 arg4 arg5 f0 f1 f4 f5 16 (ix2 b f)
    = ∑ j : Fin 32768, if before cnt b.val ≤ j.val ∧ j.val < before cnt (b.val + 1) then H j.val f else (0 : EReal) := by
  rw [acc_before c X arg0 arg1 arg4 arg5 f0 f1 f4 f5 hc hstart hstop hH b f 16 (le_refl _)]
  exact Finset.sum_range _

end Cert.Proof.KernelIdeal

end
-- ==== Proof.KernelIdealValue.lean ====
/-
  What the kernel leaves in its result, at an index.
-/
module

public import proofs.«01_k».proof.Proof.KernelIdealTables
public import proofs.«01_k».proof.Proof.KernelIdealSum

@[expose] public section

set_option maxRecDepth 16384

noncomputable section

namespace Cert.Proof.KernelIdeal

open Cert.KernelIdeal Cert.KernelIdeal.Gen Cert.Proof.Bags
open Idealize.ShloMosaic Idealize.ShloMosaic.TcCoe

variable (m : (ℓ : Loc nD τ sig) → Buf (Elt Ideal) ℓ) (c : Dev nD)

/-- The six arguments. -/
abbrev xIn : FVec Ideal S32768x1024 .f32 := m ((c : Thread nD τ).loc main_arg0)
abbrev nIn : IVec S16 32 := m ((c : Thread nD τ).loc main_arg1)
abbrev w1In : FVec Ideal S1024x512 .f32 := m ((c : Thread nD τ).loc main_arg2)
abbrev b1In : FVec Ideal S512 .f32 := m ((c : Thread nD τ).loc main_arg3)
abbrev w2In : FVec Ideal S512x128 .f32 := m ((c : Thread nD τ).loc main_arg4)
abbrev b2In : FVec Ideal S128 .f32 := m ((c : Thread nD τ).loc main_arg5)

/-- Row `j`'s hidden value `f`; past the last row, 0. -/
def hid (j : ℕ) (f : Fin 512) : EReal :=
  if h : j < 32768 then max ((∑ k : Fin 1024, xIn m c (ix2 ⟨j, h⟩ k) * w1In m c (ix2 k f))
    + b1In m c (ix1 f)) (0 : EReal) else 0

/-- A trip's hidden values are those of its rows. -/
theorem trip_rows (t : Fin cfg0.N) (k : Fin k0_t1_loop.trips) (r : Fin 2048) (f : Fin 512) :
    (k0_pay4 (slotRead c (V m c main_arg0) k) (w1Read c (st0_3 t) ((st0_3 t).view.rep (iblk m c 3 t))) (b1Read c (st0_4 t) ((st0_4 t).view.rep (iblk m c 4 t)))
      : FVec Ideal S2048x512 .f32) (ix2 r f) = hid m c (2048 * k.val + r.val) f := by
  have hk : k.val < 16 := by exact lt_of_lt_of_eq k.isLt trips_eq
  have hr := r.isLt
  have h : 2048 * k.val + r.val < 32768 := by omega
  rw [trip_hidden_at]
  unfold hid
  rw [dif_pos h]
  refine congrArg (fun z : EReal => max z 0) (congrArg₂ (· + ·) (Finset.sum_congr rfl fun q _ => congrArg₂ (· * ·) ?_ ?_) ?_)
  · rw [slotRead_at c _ k hk r q h, V_main_arg0]
  · unfold w1Read
    rw [View.readAt_rep_full, blk3, V_main_arg2]
  · unfold b1Read
    rw [row512_at, blk4, bias1_at]

section Bounds
variable {cnt : ℕ → ℕ} (hn : ∀ b : Fin 16, nIn m c (ValueIdx.ix1 b) = BitVec.ofNat 32 (cnt b.val)) (hc : ∀ b < 16, cnt b ≤ 32768)
include hn hc

/-- What the body stores: the tail of the network on every bag's sum of hidden values times the reciprocal of its size. -/
theorem outs_at (t : Fin cfg0.N) (b : Fin 16) (o : Fin 128) :
    outsAt m c t (ix2 b o) = Ideal.tanh ((∑ f : Fin 512,
      ((∑ j : Fin 32768, if before cnt b.val ≤ j.val ∧ j.val < before cnt (b.val + 1) then hid m c j.val f else (0 : EReal))
        * Ideal.div 1 (FloatOps.sitofp (F := Ideal) .f32 (IntOp.maxsi (nIn m c (ix1 b)) 1#32)))
        * w2In m c (ix2 f o)) + b2In m c (ix1 o)) := by
  unfold outsAt resVal
  rw [tail_at]
  refine congrArg Ideal.tanh (congrArg₂ (· + ·) (Finset.sum_congr rfl fun f _ => congrArg₂ (· * ·) (congrArg₂ (· * ·) ?_ ?_) ?_) ?_)
  · refine acc_end c _ (st0_0 t) (st0_1 t) (st0_3 t) (st0_4 t) _ _ _ _ hc (fun b => ?_) (fun b => ?_) (trip_rows m c t) b f
    · unfold colRead; rw [col_at, blk0, starts_at m c hn]
    · unfold colRead; rw [col_at, blk1, ends_at m c hn]
  · rw [col_at, blk2, inv_at]
  · rw [View.readAt_rep_full, blk5, V_main_arg4]
  · rw [row128_at, blk6, bias2_at]

end Bounds

/-- The grid's one point writes the whole result. -/
theorem arr_eq (G : S16x128.Idx → EReal) (h : ∀ j, outsAt m c t0_0 j = G j) : (dats m 0 c).arrAt 7 cfg0.N = G := by
  refine (dats m 0 c).arrAt_eq_of_after_last 7 t0_0 (by decide +kernel) _ fun j => ?_
  blk_simp
  rw [after_7]
  exact h j

end Cert.Proof.KernelIdeal

end
-- ==== Proof.ReferenceRolled.lean ====
/-
  The counts moved up by one bag, cyclically, as the reference writes it: a concatenation of the last count and the others.
-/
module

public import proofs.«01_k».proof.Proof.Gen.ReferenceIdeal
public import Idealize.ShloMosaic.Lib.Routing.Shapes
import Idealize.ShloMosaic.Lib.Pointwise.SelectCore

@[expose] public section

set_option maxRecDepth 16384

noncomputable section

namespace Cert.Proof.Reference

open Cert.ReferenceIdeal Cert.ReferenceIdeal.Gen Idealize.ShloMosaic

/-- The counts moved up by one bag, cyclically. -/
def rolled (n : IVec S16 32) : IVec S16 32 :=
  concatenate S16 0 [⟨S1, extractStridedSlice S1 ![15] n slices_S16_S1_15⟩, ⟨S15, extractStridedSlice S15 ![0] n slices_S16_S15_0⟩] concatenates_S1_S15_S16_d0

/-- A bag other than the first has the count of the bag before it. -/
theorem rolled_at (n : IVec S16 32) (b : Fin 16) (hb : b.val ≠ 0) : rolled n (ValueIdx.ix1 b) = n (ValueIdx.ix1 ⟨b.val - 1, by omega⟩) := by
  unfold rolled
  rw [concatenate_pair_apply, dif_neg (by show ¬ b.val < 1; omega)]
  unfold extractStridedSlice
  refine congrArg n (funext fun a => Fin.ext ?_)
  match a with
  | ⟨0, _⟩ => exact Nat.zero_add _

end Cert.Proof.Reference

end
-- ==== Proof.ReferenceBags.lean ====
/-
  The bag of every row, as the reference computes it in words: the bags' first rows by a running sum of the counts moved up by
  one, a mark at each, and the running sum of the marks less one. Under the precondition it is `started - 1`.
-/
module

public import proofs.«01_k».proof.Proof.Bags
public import proofs.«01_k».proof.Proof.ReferenceRolled
public import proofs.«01_k».proof.Proof.Gen.ReferenceIdeal
public import Idealize.ShloMosaic.Lib.Routing.OpsOne
public import Idealize.ShloMosaic.Lib.Routing.OpsPair
public import Idealize.ShloMosaic.Lib.ReduceAll

@[expose] public section

set_option maxRecDepth 16384

noncomputable section

namespace Cert.Proof.Reference

open Cert.ReferenceIdeal Cert.ReferenceIdeal.Gen Cert.Proof.Bags
open Idealize.ShloMosaic Idealize.ShloMosaic.Routing Idealize.ShloMosaic.ValueIdx

/-! ## The steps, named -/

variable (n : IVec S16 32)

/-- The counts moved up by one bag, bag 0 given none. -/
def shifted : IVec S16 32 :=
  Host.scatter scatter_S16_S1_S__n_0_0_0 (fun _ b => b) (rolled n) (broadcastInDim S1 ![] bcast_S_S1 (constantI S_ 32 0#32)) (constantI S_ 32 0#32)
/-- The bags' first rows; -/
def firsts : IVec S16 32 :=
  Host.reduceWindow IntOp.addi ![16] ![1] ![15] ![0] (shifted n) (broadcastInDim S_ ![] bcast_S_S_ (constantI S_ 32 0#32)) reduceWindows_S16_S16_w16s1p15_0 h_S_
/-- the same as scatter indices. -/
def firstIdx : IVec S16x1 32 :=
  broadcastInDim S16x1 ![0] bcast_S16_S16x1_0
    (select (cmpi .slt (firsts n) (broadcastInDim S16 ![] bcast_S_S16 (constantI S_ 32 0#32)))
      (addi (firsts n) (broadcastInDim S16 ![] bcast_S_S16 (constantI S_ 32 32768#32))) (firsts n))
/-- How many bags start at each row; -/
def marks : IVec S32768 32 :=
  Host.scatter scatter_S32768_S16x1_S16_n_0_0_1 IntOp.addi (broadcastInDim S32768 ![] bcast_S_S32768 (constantI S_ 32 0#32)) (firstIdx n)
    (broadcastInDim S16 ![] bcast_S_S16 (constantI S_ 32 1#32))
/-- how many at or before it; -/
def runs : IVec S32768 32 :=
  Host.reduceWindow IntOp.addi ![32768] ![1] ![32767] ![0] (marks n) (broadcastInDim S_ ![] bcast_S_S_ (constantI S_ 32 0#32)) reduceWindows_S32768_S32768_w32768s1p32767_0 h_S_
/-- the last of them. -/
def lastBag : IVec S32768 32 := subi (runs n) (broadcastInDim S32768 ![] bcast_S_S32768 (constantI S_ 32 1#32))
/-- That bag as gather indices; -/
def bagIdx : IVec S32768x1 32 :=
  broadcastInDim S32768x1 ![0] bcast_S32768_S32768x1_0
    (select (cmpi .slt (lastBag n) (broadcastInDim S32768 ![] bcast_S_S32768 (constantI S_ 32 0#32)))
      (addi (lastBag n) (broadcastInDim S32768 ![] bcast_S_S32768 (constantI S_ 32 16#32))) (lastBag n))
/-- whether they are in range; -/
def inRange : IVec S32768 1 :=
  Host.reduce IntOp.andi
    (andi (cmpi .sge (bagIdx n) (broadcastInDim S32768x1 ![] bcast_S_S32768x1 (constantI S_ 32 0#32)))
      (cmpi .sle (bagIdx n) (broadcastInDim S32768x1 ![0, 1] bcast_S1x1_S32768x1_0_1 (broadcastInDim S1x1 ![1] bcast_S1_S1x1_1 (constantI S1 32 15#32)))))
    (constantI S_ 1 1#1) reducesTo_S32768x1_S32768_d1 h_S_
/-- and the bag taken from the list of bags, as scatter indices. -/
def segIdx : IVec S32768x1 32 :=
  broadcastInDim S32768x1 ![0] bcast_S32768_S32768x1_0
    (select (inRange n) (Host.gather gather_S16_S32768x1_S32768_n_0_n_n_0_1_1 (iotaInDim S16 32 0) (bagIdx n))
      (broadcastInDim S32768 ![] bcast_S_S32768 (constantI S_ 32 2147483648#32)))

/-! ## The steps, read -/

variable {n} {cnt : ℕ → ℕ} (hn : ∀ b : Fin 16, n (ix1 b) = BitVec.ofNat 32 (cnt b.val))

include hn in
theorem shifted_at (b : Fin 16) : shifted n (ix1 b) = BitVec.ofNat 32 (if b.val = 0 then 0 else cnt (b.val - 1)) := by
  unfold shifted
  refine (scatter_one scatter_S16_S1_S__n_0_0_0 rfl rfl (rolled n) _ _ (0 : Fin 16) (by decide) rfl b).trans ?_
  by_cases h : b = 0
  · rw [if_pos h, if_pos (by rw [h]; rfl)]; rfl
  · have h' : b.val ≠ 0 := fun e => h (Fin.ext e)
    rw [if_neg h, if_neg h']
    exact (rolled_at n b h').trans (hn ⟨b.val - 1, by omega⟩)
include hn in
theorem firsts_at (b : Fin 16) : firsts n (ix1 b) = BitVec.ofNat 32 (before cnt b.val) := by
  unfold firsts
  refine (cumsum1 (N := 16) (Nm1 := 15) rfl (shifted n) (fun i => if i = 0 then 0 else cnt (i - 1)) (fun i => shifted_at hn i) _ rfl _ _ b).trans ?_
  rw [sum_shifted]

variable (hc : ∀ b < 16, cnt b ≤ 32768)

include hn hc in
theorem firstIdx_at (b : Fin 16) : firstIdx n (ix2 b (0 : Fin 1)) = BitVec.ofNat 32 (before cnt b.val) := by
  unfold firstIdx
  refine (bcCol (n := 16) bcast_S16_S16x1_0 _ b).trans ?_
  have hb := before_le cnt hc b.val (by omega)
  have e := firsts_at hn b
  refine (wrap_of_lt (firsts n (ix1 b)) _ ?_).trans e
  rw [e, BitVec.toNat_ofNat, Nat.mod_eq_of_lt (by omega)]; omega

/-- Bag `b`'s mark goes to row `j` exactly when its index word is `j`. -/
theorem mark_lands (idx : IVec S16x1 32) (b : Fin 16) (j : Fin 32768) :
    scatter_S32768_S16x1_S16_n_0_0_1.resultIdx? (ix1 b) idx = some (ix1 j) ↔ (idx (ix2 b (0 : Fin 1))).toInt = (j.val : Int) := by
  rw [resultIdx?_ix1]
  have hw : scatter_S32768_S16x1_S16_n_0_0_1.window (ix1 b) 0 = 0 := rfl
  have hs : scatter_S32768_S16x1_S16_n_0_0_1.start (ix1 b) idx 0 = (idx (ix2 b (0 : Fin 1))).toInt := by
    unfold ScatterDims.start
    rw [dif_pos (show (0 : Fin 1) ∈ scatter_S32768_S16x1_S16_n_0_0_1.scatterDimsToOperandDims from List.mem_singleton.2 rfl)]
    refine congrArg (fun q => (idx q).toInt) (funext fun a => ?_)
    match a with
    | ⟨0, _⟩ => rfl
    | ⟨1, _⟩ => rfl
  rw [hw, hs]; omega

include hn hc in
theorem marks_at (j : Fin 32768) : marks n (ix1 j) = BitVec.ofNat 32 (Nat.count (fun b => before cnt b = j.val) 16) := by
  unfold marks
  rw [scatter_at]
  have step : ∀ (L : List (Fin S16.numel)) (a : BitVec 32) (k : ℕ), a = BitVec.ofNat 32 k →
      L.foldl (fun a q => if scatter_S32768_S16x1_S16_n_0_0_1.resultIdx? (S16.rowMajor.symm q) (firstIdx n) = some (ix1 j)
        then IntOp.addi a (broadcastInDim S16 ![] bcast_S_S16 (constantI S_ 32 1#32) (S16.rowMajor.symm q)) else a) a
      = BitVec.ofNat 32 (k + L.countP fun q => decide (before cnt q.val = j.val)) := by
    intro L
    induction L with
    | nil => intro a k h; exact h
    | cons q L ih =>
      intro a k h
      have hq := mark_lands (firstIdx n) (q.cast (numel1 16)) j
      have hqlt : q.val < 16 := (q.cast (numel1 16)).isLt
      have hbl := before_le cnt hc q.val (by omega)
      rw [firstIdx_at hn hc, StableHlo.Predicate.toInt_ofNat_small _ (by show before cnt q.val < _; omega), ← symm1] at hq
      have hq' : scatter_S32768_S16x1_S16_n_0_0_1.resultIdx? (S16.rowMajor.symm q) (firstIdx n) = some (ix1 j) ↔ before cnt q.val = j.val := by
        refine hq.trans ?_
        show ((before cnt q.val : ℕ) : Int) = _ ↔ _
        omega
      rw [List.foldl_cons, List.countP_cons]
      by_cases e : before cnt q.val = j.val
      · rw [if_pos (hq'.mpr e), ih _ (k + 1) (by rw [h]; show BitVec.ofNat 32 k + 1#32 = _; rw [BitVec.ofNat_add]), if_pos (decide_eq_true e)]
        congr 1; omega
      · rw [if_neg fun h => e (hq'.mp h), ih _ k h, if_neg fun h => e (of_decide_eq_true h)]
        congr 1
  refine (step _ _ 0 rfl).trans ?_
  have h16 : S16.numel = 16 := numel1 16
  rw [Nat.zero_add, countP_finRange _ (fun i => before cnt i = j.val), h16]

include hn hc in
theorem runs_at (j : Fin 32768) : runs n (ix1 j) = BitVec.ofNat 32 (started cnt j.val) := by
  unfold runs
  refine (cumsum1 (N := 32768) (Nm1 := 32767) rfl (marks n) (fun i => Nat.count (fun b => before cnt b = i) 16) (fun i => marks_at hn hc i) _ rfl _ _ j).trans ?_
  rw [sum_count_eq]; rfl
include hn hc in
theorem lastBag_at (j : Fin 32768) : lastBag n (ix1 j) = BitVec.ofNat 32 (started cnt j.val - 1) := by
  have hp := started_pos cnt j.val
  have hl := started_le cnt j.val
  show runs n (ix1 j) - 1#32 = _
  rw [runs_at hn hc]
  apply BitVec.eq_of_toNat_eq
  simp only [BitVec.toNat_sub, BitVec.toNat_ofNat]
  omega
include hn hc in
theorem bagIdx_at (j : Fin 32768) : bagIdx n (ix2 j (0 : Fin 1)) = BitVec.ofNat 32 (started cnt j.val - 1) := by
  unfold bagIdx
  refine (bcCol (n := 32768) bcast_S32768_S32768x1_0 _ j).trans ?_
  have hl := started_le cnt j.val
  have e := lastBag_at hn hc j
  refine (wrap_of_lt (lastBag n (ix1 j)) _ ?_).trans e
  rw [e, BitVec.toNat_ofNat, Nat.mod_eq_of_lt (by omega)]; omega
include hn hc in
theorem inRange_at (j : Fin 32768) : inRange n (ix1 j) = 1#1 := by
  unfold inRange
  refine Host.reduce_andi_one _ _ _ _ _ rfl fun i => ?_
  obtain ⟨p, q, rfl⟩ : ∃ (p : Fin 32768) (q : Fin 1), i = ix2 p q := ⟨i 0, i 1, eq_ix2 i⟩
  obtain rfl : q = 0 := Subsingleton.elim _ _
  have hl := started_le cnt p.val
  show IntOp.andi (IntOp.cmpi .sge (bagIdx n (ix2 p (0 : Fin 1))) 0#32) (IntOp.cmpi .sle (bagIdx n (ix2 p (0 : Fin 1))) 15#32) = 1#1
  rw [bagIdx_at hn hc]
  generalize hk : started cnt p.val - 1 = k
  have hk' : k < 16 := by omega
  interval_cases k <;> decide
include hn hc in
theorem segIdx_at (j : Fin 32768) : segIdx n (ix2 j (0 : Fin 1)) = BitVec.ofNat 32 (started cnt j.val - 1) := by
  have hp := started_pos cnt j.val
  have hl := started_le cnt j.val
  unfold segIdx
  refine (bcCol (n := 32768) bcast_S32768_S32768x1_0 _ j).trans ?_
  show Scalar.select (inRange n (ix1 j)) (Host.gather gather_S16_S32768x1_S32768_n_0_n_n_0_1_1 (iotaInDim S16 32 0) (bagIdx n) (ix1 j)) _ = _
  rw [inRange_at hn hc]
  refine (gather_take1 gather_S16_S32768x1_S32768_n_0_n_n_0_1_1 rfl rfl rfl rfl (iotaInDim S16 32 0) (bagIdx n) j ⟨started cnt j.val - 1, by omega⟩
    (bagIdx_at hn hc j) (by decide)).trans ?_
  rfl

end Cert.Proof.Reference

end
-- ==== Proof.ReferencePooled.lean ====
/-
  The reference's sum over each bag: row `j` is added to the bag its index names, so bag `b` holds the sum of its rows.
-/
module

public import proofs.«01_k».proof.Proof.ReferenceBags
public import Idealize.ShloMosaic.PureOps.Ideal.Laws
public import Idealize.ShloMosaic.Lib.ValueIdx

@[expose] public section

set_option maxRecDepth 16384

noncomputable section

namespace Cert.Proof.Reference

open Cert.ReferenceIdeal Cert.ReferenceIdeal.Gen Cert.Proof.Bags
open Idealize.ShloMosaic Idealize.ShloMosaic.Routing Idealize.ShloMosaic.ValueIdx

/-- Every bag's sum of the rows of `h`. -/
def pooled (n : IVec S16 32) (h : FVec Ideal S32768x512 .f32) : FVec Ideal S16x512 .f32 :=
  Host.scatterAdd scatter_S16x512_S32768x1_S32768x512_1_0_0_1 (broadcastInDim S16x512 ![] bcast_S_S16x512 (constant S_ .f32 0x00000000#32)) (segIdx n) h

/-- Row `j`'s column `e` goes to bag `b`'s column `f` exactly when `j`'s index is `b` and the columns are the same. -/
theorem row_lands (idx : IVec S32768x1 32) (j : Fin 32768) (e : Fin 512) (b : Fin 16) (f : Fin 512) :
    scatter_S16x512_S32768x1_S32768x512_1_0_0_1.resultIdx? (ix2 j e) idx = some (ix2 b f)
      ↔ (idx (ix2 j (0 : Fin 1))).toInt = (b.val : Int) ∧ e = f := by
  rw [resultIdx?_ix2]
  have w0 : scatter_S16x512_S32768x1_S32768x512_1_0_0_1.window (ix2 j e) 0 = 0 := rfl
  have w1 : scatter_S16x512_S32768x1_S32768x512_1_0_0_1.window (ix2 j e) 1 = e.val := rfl
  have s1 : scatter_S16x512_S32768x1_S32768x512_1_0_0_1.start (ix2 j e) idx 1 = 0 := rfl
  have s0 : scatter_S16x512_S32768x1_S32768x512_1_0_0_1.start (ix2 j e) idx 0 = (idx (ix2 j (0 : Fin 1))).toInt := by
    unfold ScatterDims.start
    rw [dif_pos (show (0 : Fin 2) ∈ scatter_S16x512_S32768x1_S32768x512_1_0_0_1.scatterDimsToOperandDims from List.mem_singleton.2 rfl)]
    refine congrArg (fun q => (idx q).toInt) (funext fun a => ?_)
    match a with
    | ⟨0, _⟩ => rfl
    | ⟨1, _⟩ => rfl
  rw [w0, w1, s0, s1, Fin.ext_iff]; omega

/-- The sum's starting value. -/
theorem zeros_at (i : S16x512.Idx) : broadcastInDim S16x512 ![] bcast_S_S16x512 (constant (F := Ideal) S_ .f32 0x00000000#32) i = (0 : EReal) := by
  rw [bc0]; exact Ideal.ofBits_zero_f32

/-- The scatter that adds: at an element, its starting value and the updates that land there. -/
theorem scatterAdd_at {s si u : Shape} (d : ScatterDims s si u) (x : FVec Ideal s .f32) (idx : IVec si 32) (upd : FVec Ideal u .f32) (i : s.Idx) :
    Host.scatterAdd d x idx upd i = x i + ∑ q ∈ Finset.univ.filter (fun q => d.resultIdx? q idx = some i), upd q := by
  unfold Host.scatterAdd
  rw [Ideal.hostScatterAdd_def]
  rfl

variable {n : IVec S16 32} {cnt : ℕ → ℕ} (hn : ∀ b : Fin 16, n (ix1 b) = BitVec.ofNat 32 (cnt b.val)) (hc : ∀ b < 16, cnt b ≤ 32768)
  (htot : 32768 ≤ before cnt 16)

include hn hc htot in
theorem pooled_at (h : FVec Ideal S32768x512 .f32) (b : Fin 16) (f : Fin 512) :
    pooled n h (ix2 b f) = ∑ j : Fin 32768, if before cnt b.val ≤ j.val ∧ j.val < before cnt (b.val + 1) then h (ix2 j f) else (0 : EReal) := by
  unfold pooled
  rw [scatterAdd_at, zeros_at, zero_add, Finset.sum_filter, sum_idx2]
  refine Finset.sum_congr rfl fun j _ => ?_
  have hs : (segIdx n (ix2 j (0 : Fin 1))).toInt = (b.val : Int) ↔ before cnt b.val ≤ j.val ∧ j.val < before cnt (b.val + 1) := by
    rw [← started_iff cnt htot j.isLt b.isLt, segIdx_at hn hc, StableHlo.Predicate.toInt_ofNat_small _ (by have := started_le cnt j.val; omega)]
    have := started_pos cnt j.val
    omega
  by_cases hp : before cnt b.val ≤ j.val ∧ j.val < before cnt (b.val + 1)
  · rw [if_pos hp, Finset.sum_eq_single f]
    · rw [if_pos ((row_lands _ _ _ _ _).mpr ⟨hs.mpr hp, rfl⟩)]
    · intro e _ hne; rw [if_neg fun q => hne ((row_lands _ _ _ _ _).mp q).2]
    · intro q; exact absurd (Finset.mem_univ _) q
  · rw [if_neg hp]
    exact Finset.sum_eq_zero fun e _ => if_neg fun q => hp (hs.mp ((row_lands _ _ _ _ _).mp q).1)

end Cert.Proof.Reference

end
-- ==== Proof.ReferenceValue.lean ====
/-
  What the reference computes, at an index: every row's hidden values, each bag's mean of them, and the layer after.
-/
module

public import proofs.«01_k».proof.Proof.ReferencePooled
public import proofs.«01_k».proof.Proof.Gen.ReferenceIdeal.Run
public import Idealize.ShloMosaic.Lib.Pointwise
public import Idealize.ShloMosaic.Lib.IdealHost

@[expose] public section

set_option maxRecDepth 16384

noncomputable section

namespace Cert.Proof.Reference

open Cert.ReferenceIdeal Cert.ReferenceIdeal.Gen Cert.Proof.Bags
open Idealize.ShloMosaic Idealize.ShloMosaic.TcCoe

variable (x : FVec Ideal S32768x1024 .f32) (n : IVec S16 32) (W1 : FVec Ideal S1024x512 .f32) (b1 : FVec Ideal S512 .f32)
  (W2 : FVec Ideal S512x128 .f32) (b2 : FVec Ideal S128 .f32)

/-- Every row's hidden values. -/
def hidden : FVec Ideal S32768x512 .f32 :=
  maximumf (addf (Host.dotGeneral dot_S32768x1024_S1024x512_S32768x512_1_0_0_1_n_n none x W1)
      (broadcastInDim S32768x512 ![0, 1] bcast_S1x512_S32768x512_0_1 (broadcastInDim S1x512 ![1] bcast_S512_S1x512_1 b1)))
    (broadcastInDim S32768x512 ![] bcast_S_S32768x512 (constant S_ .f32 0x00000000#32))
/-- The layer after, on the bags' sums `p` divided by their sizes. -/
def layer (p : FVec Ideal S16x512 .f32) : FVec Ideal S16x128 .f32 :=
  Host.tanh (addf (Host.dotGeneral dot_S16x512_S512x128_S16x128_1_0_0_1_n_n none
      (Host.divf p (broadcastInDim S16x512 ![0, 1] bcast_S16x1_S16x512_0_1 (broadcastInDim S16x1 ![0] bcast_S16_S16x1_0
        (sitofp .f32 (maxsi n (broadcastInDim S16 ![] bcast_S_S16 (constantI S_ 32 1#32)))))))
      W2)
    (broadcastInDim S16x128 ![0, 1] bcast_S1x128_S16x128_0_1 (broadcastInDim S1x128 ![1] bcast_S128_S1x128_1 b2)))

/-- The reference's result is the layer after over the sums of the hidden rows. -/
theorem result_eq (m : (ℓ : Loc nD τ sig) → Buf (Elt Ideal) ℓ) (c : Dev nD) :
    Value.res_main_v36 m c = layer (m ((c.tc : Thread nD τ).loc main_arg1)) (m ((c.tc : Thread nD τ).loc main_arg4)) (m ((c.tc : Thread nD τ).loc main_arg5))
      (pooled (m ((c.tc : Thread nD τ).loc main_arg1))
        (hidden (m ((c.tc : Thread nD τ).loc main_arg0)) (m ((c.tc : Thread nD τ).loc main_arg2)) (m ((c.tc : Thread nD τ).loc main_arg3)))) := by
  unfold Value.res_main_v36 layer pooled hidden segIdx inRange bagIdx lastBag runs marks firstIdx firsts shifted rolled
  rfl

theorem hidden_at (j : Fin 32768) (f : Fin 512) :
    hidden x W1 b1 (ix2 j f) = max ((∑ k : Fin 1024, x (ix2 j k) * W1 (ix2 k f)) + b1 (ix1 f)) (0 : EReal) := by
  pointwise [hidden]
theorem layer_at (p : FVec Ideal S16x512 .f32) (b : Fin 16) (o : Fin 128) :
    layer n W2 b2 p (ix2 b o) = Ideal.tanh ((∑ f : Fin 512, Ideal.div (p (ix2 b f)) (FloatOps.sitofp (F := Ideal) .f32 (IntOp.maxsi (n (ix1 b)) 1#32)) * W2 (ix2 f o)) + b2 (ix1 o)) := by
  pointwise [layer]

end Cert.Proof.Reference

end
-- ==== Proof.Precondition.lean ====
/-
  What the precondition says of the bags' sizes: each is a count of at most 32768 rows, and together they cover the 32768 rows.
-/
module

public import proofs.«01_k».proof.Defs
public import proofs.«01_k».proof.Proof.Bags
public import proofs.«01_k».proof.Proof.Gen.Pre_bags_cover
public import Idealize.ShloMosaic.Lib.Routing.Ops
public import Idealize.ShloMosaic.Lib.StableHlo.Predicate

@[expose] public section

noncomputable section

namespace Cert.Proof.Precondition

open Cert.Pre_bags_cover Cert.Pre_bags_cover.Gen Cert.Proof.Bags
open Idealize.ShloMosaic Idealize.ShloMosaic.TcCoe

/-- The sizes as numbers, 0 past the last bag. -/
def sizes (n : IVec S16 32) (b : ℕ) : ℕ := if h : b < 16 then (n (ValueIdx.ix1 ⟨b, h⟩)).toNat else 0

theorem sizes_word (n : IVec S16 32) (b : Fin 16) : n (ValueIdx.ix1 b) = BitVec.ofNat 32 (sizes n b.val) := by
  unfold sizes
  rw [dif_pos b.isLt]
  rw [BitVec.ofNat_toNat, BitVec.setWidth_eq]

variable {F : FTy → Type} [FloatOps F] (x : FVec F S32768x1024 .f32) (n : IVec S16 32) (W1 : FVec F S1024x512 .f32) (b1 : FVec F S512 .f32)
  (W2 : FVec F S512x128 .f32) (b2 : FVec F S128 .f32) (h : Cert.Pre_bags_cover.fn x n W1 b1 W2 b2 = fun _ => 1#1)
include h

/-- What the precondition says of one bag, and of the sizes' sum. -/
theorem decoded (b : Fin 16) : 0 ≤ (n (ValueIdx.ix1 b)).toInt ∧ (n (ValueIdx.ix1 b)).toInt ≤ 32768
    ∧ 32768 ≤ (Host.reduce IntOp.addi n (constantI S_ 32 0#32) reducesTo_S16_S_d0 h_S_ ValueIdx.ix0).toInt := by
  have e := congrFun h (ValueIdx.ix1 b)
  simp only [Cert.Pre_bags_cover.fn, andi, cmpi] at e
  have ha : ∀ (p q : Bool), IntOp.andi (BitVec.ofBool p) (BitVec.ofBool q) = BitVec.ofBool (p && q) := by
    intro p q; cases p <;> cases q <;> decide
  have ho : ∀ p : Bool, (BitVec.ofBool p = 1#1) ↔ p = true := fun p => by cases p <;> decide
  have hz : ∀ (y : IVec S_ 32), broadcastInDim S16 ![] bcast_S_S16 y (ValueIdx.ix1 b) = y ValueIdx.ix0 := fun y => Routing.bc0 _ _ _
  have hz1 : ∀ (y : IVec S_ 1), broadcastInDim S16 ![] bcast_S_S16 y (ValueIdx.ix1 b) = y ValueIdx.ix0 := fun y => Routing.bc0 _ _ _
  rw [hz, hz, hz1] at e
  simp only [cmpi, IntOp.cmpi, constantI, ha, ho, Bool.and_eq_true, BitVec.sle_eq_decide, decide_eq_true_eq] at e
  have h0 : (0#32 : BitVec 32).toInt = 0 := by decide
  have h4 : (32768#32 : BitVec 32).toInt = 32768 := by decide
  simp only [h0, h4] at e
  exact ⟨e.1.1, e.1.2, e.2⟩

theorem sizes_le : ∀ b < 16, sizes n b ≤ 32768 := by
  intro b hb
  obtain ⟨h1, h2, -⟩ := decoded x n W1 b1 W2 b2 h ⟨b, hb⟩
  unfold sizes
  rw [dif_pos hb]
  rw [BitVec.toInt_eq_toNat_cond] at h1 h2
  have := (n (ValueIdx.ix1 ⟨b, hb⟩)).isLt
  split at h1 <;> omega

/-- The bags cover every row. -/
theorem sizes_cover : 32768 ≤ before (sizes n) 16 := by
  obtain ⟨-, -, h3⟩ := decoded x n W1 b1 W2 b2 h 0
  have hs : Host.reduce IntOp.addi n (constantI S_ 32 0#32) reducesTo_S16_S_d0 h_S_ ValueIdx.ix0 = BitVec.ofNat 32 (before (sizes n) 16) :=
    Routing.reduce_sum (N := 16) n (sizes n) (sizes_word n) reducesTo_S16_S_d0 h_S_
  have hb := before_le (sizes n) (sizes_le x n W1 b1 W2 b2 h) 16 (le_refl _)
  rw [hs, StableHlo.Predicate.toInt_ofNat_small _ (by omega)] at h3
  omega

end Cert.Proof.Precondition

end
-- ==== Proof.Equation.lean ====
/-
  The equation: where the bags cover the rows, what the kernel leaves in its result is what the reference computes.
-/
module

public import proofs.«01_k».proof.Proof.KernelIdealValue
public import proofs.«01_k».proof.Proof.ReferenceValue
public import proofs.«01_k».proof.Proof.Precondition

@[expose] public section

set_option maxRecDepth 16384

noncomputable section

namespace Cert.Proof.Equation

open Cert.KernelIdeal Cert.KernelIdeal.Gen Cert.Proof.Bags Cert.Proof.KernelIdeal
open Idealize.ShloMosaic Idealize.ShloMosaic.TcCoe

/-- A bag's size, at least one, is not zero over the extended reals. -/
theorem size_ne (w : BitVec 32) : FloatOps.sitofp (F := Ideal) .f32 (IntOp.maxsi w 1#32) ≠ (0 : EReal) := by
  have h : 1 ≤ (IntOp.maxsi w 1#32).toInt := by
    unfold IntOp.maxsi
    have h1 : (1#32 : BitVec 32).toInt = 1 := by decide
    split <;> rename_i c <;> simp only [BitVec.slt, BitVec.sle, decide_eq_true_eq, h1] at c ⊢ <;> omega
  show (((IntOp.maxsi w 1#32).toInt : ℝ) : EReal) ≠ 0
  intro e
  have e' : ((IntOp.maxsi w 1#32).toInt : ℝ) = 0 := by exact_mod_cast e
  have : (IntOp.maxsi w 1#32).toInt = 0 := by exact_mod_cast e'
  omega

variable (m : (ℓ : Loc nD τ sig) → Buf (Elt Ideal) ℓ) (c : Dev nD) {cnt : ℕ → ℕ}
  (hn : ∀ b : Fin 16, nIn m c (ValueIdx.ix1 b) = BitVec.ofNat 32 (cnt b.val)) (hc : ∀ b < 16, cnt b ≤ 32768) (htot : 32768 ≤ before cnt 16)
include hn hc htot

/-- The reference's sum of a bag's hidden values, row by row. -/
theorem pooled_eq (b : Fin 16) (f : Fin 512) : Reference.pooled (nIn m c) (Reference.hidden (xIn m c) (w1In m c) (b1In m c)) (ix2 b f)
    = ∑ j : Fin 32768, if before cnt b.val ≤ j.val ∧ j.val < before cnt (b.val + 1) then hid m c j.val f else (0 : EReal) := by
  rw [ix2_eq_valueIdx, Reference.pooled_at hn hc htot]
  refine Finset.sum_congr rfl fun r _ => ?_
  have e : Reference.hidden (xIn m c) (w1In m c) (b1In m c) (ValueIdx.ix2 r f) = hid m c r.val f := by
    rw [← ix2_eq_valueIdx, Reference.hidden_at]
    unfold hid
    rw [dif_pos r.isLt]
  rw [e]

/-- What the body stores is the reference's result, on the kernel's arguments. -/
theorem stored_eq (t : Fin cfg0.N) (j : S16x128.Idx) :
    outsAt m c t j = Reference.layer (nIn m c) (w2In m c) (b2In m c)
      (Reference.pooled (nIn m c) (Reference.hidden (xIn m c) (w1In m c) (b1In m c))) j := by
  obtain ⟨b, o, rfl⟩ : ∃ (b : Fin 16) (o : Fin 128), j = ix2 b o := ⟨j 0, j 1, by funext a; match a with | ⟨0, _⟩ => rfl | ⟨1, _⟩ => rfl⟩
  rw [outs_at m c hn hc, Reference.layer_at]
  refine congrArg Ideal.tanh (congrArg (fun z : EReal => z + b2In m c (ix1 o)) (Finset.sum_congr rfl fun f _ => congrArg (fun z : EReal => z * w2In m c (ix2 f o)) ?_))
  rw [pooled_eq m c hn hc htot b f, Ideal.mul_one_div (size_ne _)]

/-- What the kernel leaves in its result is the reference's result, on the kernel's arguments. -/
theorem array_eq : (dats m 0 c).arrAt 7 cfg0.N = Reference.layer (nIn m c) (w2In m c) (b2In m c)
    (Reference.pooled (nIn m c) (Reference.hidden (xIn m c) (w1In m c) (b1In m c))) :=
  arr_eq m c _ (stored_eq m c hn hc htot t0_0)

end Cert.Proof.Equation

end
-- ==== Proof.lean ====
/-
  The proof of `Cert.Claim`: the kernel and the reference run and leave their arguments and every semaphore as they found
  them, the idealized kernel is the kernel's own text, and it computes what the reference computes.

  * `Proof/KernelIdealSlots.lean`, `…Trip.lean`, `…Body.lean`, `…Launch.lean`: the run of the kernel over the extended reals, as far
    as the contents of its result's array; `Proof/KernelSlots.lean` … `Proof/KernelLaunch.lean`: the same of the kernel over words.
  * `Proof/Bags.lean`: the rows before a bag, and the bags started at a row, as numbers.
  * `Proof/KernelIdealPays.lean`, `…Reads.lean`, `…Tables.lean`: what a trip of the kernel's loop computes, what its loads read, and
    what its staged tables hold, each at an index; `…Sum.lean`: the accumulator after the loop; `…Value.lean`: the kernel's result.
  * `Proof/ReferenceRolled.lean`, `…Bags.lean`, `…Pooled.lean`, `…Value.lean`: the reference's bag of each row, its sum over each bag, and its result.
  * `Proof/Precondition.lean`: the precondition as bounds on the sizes; `Proof/Equation.lean`: the two results are equal.
-/
module

public import proofs.«01_k».proof.Defs
public import proofs.«01_k».proof.Proof.KernelLaunch
public import proofs.«01_k».proof.Proof.Equation
public import proofs.«01_k».proof.Proof.Gen.Pre_bags_cover
public import proofs.«01_k».proof.Proof.Gen.ReferenceIdeal
public import proofs.«01_k».proof.Proof.Gen.ReferenceIdeal.Run

@[expose] public section

noncomputable section

namespace Cert.Proof

open Idealize.ShloMosaic Idealize.ShloMosaic.TcCoe

theorem frame_kernel : Cert.quiescent_Kernel := fun m ρ _ => Cert.Proof.Kernel.frame m ρ
theorem frame_kernelIdeal : Cert.quiescent_KernelIdeal := fun m ρ _ => Cert.Proof.KernelIdeal.frame m ρ
theorem frame_kernelIdeal_pre : Cert.quiescent_KernelIdeal_pre_bags_cover := fun m ρ _ => Cert.Proof.KernelIdeal.frame m ρ
/-- The reference declares no semaphore and writes none of its arguments. -/
theorem frame_referenceIdeal : Cert.quiescent_ReferenceIdeal := fun m ρ _ =>
  (θ_run Cert.ReferenceIdeal.defs _ _).mono (fun r h => ⟨fun c => (h c).2, Idealize.ShloMosaic.sem_eq_zero_of_no_sems (by decide) r.2⟩) (Cert.ReferenceIdeal.Value.run (F := Ideal) m ρ)
theorem frame_referenceIdeal_pre : Cert.quiescent_ReferenceIdeal_pre_bags_cover := fun m ρ _ => frame_referenceIdeal m ρ trivial
theorem preserves : Cert.preserves_Kernel_KernelIdeal := trivial

/-- The kernel and the reference, on arguments that agree and bags that cover the rows, end with equal results. -/
theorem algebraic : Cert.algebraic_KernelIdeal_ReferenceIdeal_pre_bags_cover := by
  intro m g m' g' hpre hagree
  refine ⟨fun c => (Cert.Proof.KernelIdeal.dats m 0 c).arrAt 7 Cert.KernelIdeal.cfg0.N,
    (θ_run Cert.KernelIdeal.defs _ _).mono (fun r h c => ⟨(h.1 c).1 7, Cert.Proof.KernelIdeal.kept_of m r h.1 c⟩) (Cert.Proof.KernelIdeal.run_main m g),
    (θ_run Cert.ReferenceIdeal.defs _ _).mono (fun r h c => ⟨(h c).1.trans ?_, (h c).2⟩) (Cert.ReferenceIdeal.Value.run (F := Ideal) m' g')⟩
  obtain ⟨e0, e1, e2, e3, e4, e5⟩ := hagree c
  rw [Cert.Proof.Reference.result_eq, e0, e1, e2, e3, e4, e5]
  exact (Cert.Proof.Equation.array_eq m c (Cert.Proof.Precondition.sizes_word _) (Cert.Proof.Precondition.sizes_le _ _ _ _ _ _ (hpre c))
    (Cert.Proof.Precondition.sizes_cover _ _ _ _ _ _ (hpre c))).symm

theorem claim : Cert.Claim :=
  ⟨Cert.Kernel.Gen.facts, Cert.KernelIdeal.Gen.facts, Cert.ReferenceIdeal.Gen.facts, Cert.Pre_bags_cover.Gen.facts,
    frame_kernel, frame_kernelIdeal, frame_kernelIdeal_pre, frame_referenceIdeal, frame_referenceIdeal_pre, preserves, algebraic⟩

end Cert.Proof

end
